-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16_0) = v0 c
          ∧ r.2.mem ((c.tc : Thread Cert.ReferenceIdeal.nD Cert.ReferenceIdeal.τ).loc Cert.ReferenceIdeal.main_v16_1) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_v16_3) = v3 c
          ∧ r.2.mem ((c.tc : Thread Cert.ReferenceIdeal.nD Cert.ReferenceIdeal.τ).loc Cert.ReferenceIdeal.main_v16_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x16384 : Shape := ⟨3, ![3, 8192, 16384]⟩
abbrev S16384 : Shape := ⟨1, ![16384]⟩
abbrev S3x8192 : Shape := ⟨2, ![3, 8192]⟩
abbrev S16384x2304 : Shape := ⟨2, ![16384, 2304]⟩
abbrev S2304 : Shape := ⟨1, ![2304]⟩
abbrev S24576x16384 : Shape := ⟨2, ![24576, 16384]⟩
abbrev S24576x1 : Shape := ⟨2, ![24576, 1]⟩
abbrev S64 : Shape := ⟨1, ![64]⟩
abbrev S_ : Shape := ⟨0, ![]⟩
abbrev S128 : Shape := ⟨1, ![128]⟩
abbrev S1x128 : Shape := ⟨2, ![1, 128]⟩
abbrev S1x16384 : Shape := ⟨2, ![1, 16384]⟩
abbrev S1x2304 : Shape := ⟨2, ![1, 2304]⟩
abbrev S24576x2048 : Shape := ⟨2, ![24576, 2048]⟩
abbrev S24576x128 : Shape := ⟨2, ![24576, 128]⟩
abbrev S128x16384 : Shape := ⟨2, ![128, 16384]⟩
abbrev S128x1 : Shape := ⟨2, ![128, 1]⟩
abbrev S128x2048 : Shape := ⟨2, ![128, 2048]⟩
abbrev S128x128 : Shape := ⟨2, ![128, 128]⟩
abbrev S32x16384 : Shape := ⟨2, ![32, 16384]⟩
abbrev S32 : Shape := ⟨1, ![32]⟩
abbrev S32x1 : Shape := ⟨2, ![32, 1]⟩
abbrev S128x2304 : Shape := ⟨2, ![128, 2304]⟩

abbrev nBuf : Space → Nat
  | .hbm => 32
  | .vmem => 19
  | .smem => 0
  | _ => 0

abbrev bufTy : (tb : Table) → Fin (tcTables nBuf tb) → BufTy
  | .hbm, ⟨0, _⟩ => ⟨S3x8192x16384, .bf16⟩
  | .hbm, ⟨1, _⟩ => ⟨S16384, .f32⟩
  | .hbm, ⟨2, _⟩ => ⟨S3x8192, .i32⟩
  | .hbm, ⟨3, _⟩ => ⟨S16384x2304, .fp8e4m3⟩
  | .hbm, ⟨4, _⟩ => ⟨S2304, .f32⟩
  | .hbm, ⟨5, _⟩ => ⟨S24576x16384, .bf16⟩
  | .hbm, ⟨6, _⟩ => ⟨S24576x1, .i32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S128, .f32⟩
  | .hbm, ⟨24, _⟩ => ⟨S1x128, .f32⟩
  | .hbm, ⟨25, _⟩ => ⟨S1x16384, .f32⟩
  | .hbm, ⟨26, _⟩ => ⟨S1x2304, .f32⟩
  | .hbm, ⟨27, _⟩ => ⟨S24576x2048, .bf16⟩
  | .hbm, ⟨28, _⟩ => ⟨S24576x128, .bf16⟩
  | .hbm, ⟨29, _⟩ => ⟨S24576x128, .bf16⟩
  | .hbm, ⟨30, _⟩ => ⟨S24576x16384, .fp8e4m3⟩
  | .hbm, ⟨31, _⟩ => ⟨S24576x1, .f32⟩
  | .local _ .vmem, ⟨0, _⟩ => ⟨S128x16384, .bf16⟩
  | .local _ .vmem, ⟨1, _⟩ => ⟨S128x16384, .bf16⟩
  | .local _ .vmem, ⟨2, _⟩ => ⟨S1x16384, .f32⟩
  | .local _ .vmem, ⟨3, _⟩ => ⟨S128x1, .i32⟩
  | .local _ .vmem, ⟨4, _⟩ => ⟨S128x1, .i32⟩
  | .local _ .vmem, ⟨5, _⟩ => ⟨S16384x2304, .fp8e4m3⟩
  | .local _ .vmem, ⟨6, _⟩ => ⟨S1x2304, .f32⟩
  | .local _ .vmem, ⟨7, _⟩ => ⟨S1x128, .f32⟩
  | .local _ .vmem, ⟨8, _⟩ => ⟨S128x2048, .bf16⟩
  | .local _ .vmem, ⟨9, _⟩ => ⟨S128x2048, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S128x16384, .fp8e4m3⟩
  | .local _ .vmem, ⟨15, _⟩ => ⟨S128x16384, .fp8e4m3⟩
  | .local _ .vmem, ⟨16, _⟩ => ⟨S128x1, .f32⟩
  | .local _ .vmem, ⟨17, _⟩ => ⟨S128x1, .f32⟩
  | .local _ .vmem, ⟨18, _⟩ => ⟨S32x16384, .f32⟩
  | _, _ => ⟨S3x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev main_v17_3 : Ref sig .tc := ⟨.hbm, 30, rfl⟩
abbrev main_v17_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![192], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32 : BitVec 32 := 32#32
  let v151 : BitVec 32 := Scalar.muli arg13 c32_i32
  v151
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v151 : BitVec 32 := Scalar.muli arg13 c32_i32
  let v152 : BitVec 32 := v151
  let v153 : Index := Scalar.indexCast v152
  let c0_51 : Index := 0#32
  ![v153.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v151 : BitVec 32 := Scalar.muli arg13 c32_i32
  let v152 : BitVec 32 := v151
  let v215 : Index := Scalar.indexCast v152
  let c0_71 : Index := 0#32
  ![v215.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16384x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x16384 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x8192x16384 : Shape := ⟨3, ![3, 8192, 16384]⟩
abbrev S16384 : Shape := ⟨1, ![16384]⟩
abbrev S3x8192 : Shape := ⟨2, ![3, 8192]⟩
abbrev S16384x2304 : Shape := ⟨2, ![16384, 2304]⟩
abbrev S2304 : Shape := ⟨1, ![2304]⟩
abbrev S64 : Shape := ⟨1, ![64]⟩
abbrev S_ : Shape := ⟨0, ![]⟩
abbrev S24576x16384 : Shape := ⟨2, ![24576, 16384]⟩
abbrev S1x16384 : Shape := ⟨2, ![1, 16384]⟩
abbrev S24576x1 : Shape := ⟨2, ![24576, 1]⟩
abbrev S1x2304 : Shape := ⟨2, ![1, 2304]⟩
abbrev S1x64 : Shape := ⟨2, ![1, 64]⟩
abbrev S24576x2048 : Shape := ⟨2, ![24576, 2048]⟩
abbrev S24576x128 : Shape := ⟨2, ![24576, 128]⟩
abbrev S24576 : Shape := ⟨1, ![24576]⟩
abbrev S24576x2304 : Shape := ⟨2, ![24576, 2304]⟩
abbrev S24576x16x128 : Shape := ⟨3, ![24576, 16, 128]⟩
abbrev S24576x1x128 : Shape := ⟨3, ![24576, 1, 128]⟩
abbrev S24576x64 : Shape := ⟨2, ![24576, 64]⟩
abbrev S24576x1x64 : Shape := ⟨3, ![24576, 1, 64]⟩
abbrev S24576x16x64 : Shape := ⟨3, ![24576, 16, 64]⟩

abbrev nBuf : Space → Nat
  | .hbm => 31
  | .vmem => 11
  | .smem => 0
  | _ => 0

abbrev bufTy : (tb : Table) → Fin (tcTables nBuf tb) → BufTy
  | .hbm, ⟨0, _⟩ => ⟨S3x8192x16384, .bf16⟩
  | .hbm, ⟨1, _⟩ => ⟨S16384, .f32⟩
  | .hbm, ⟨2, _⟩ => ⟨S3x8192, .i32⟩
  | .hbm, ⟨3, _⟩ => ⟨S16384x2304, .fp8e4m3⟩
  | .hbm, ⟨4, _⟩ => ⟨S2304, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S24576x16384, .bf16⟩
  | .hbm, ⟨22, _⟩ => ⟨S1x16384, .f32⟩
  | .hbm, ⟨23, _⟩ => ⟨S24576x1, .i32⟩
  | .hbm, ⟨24, _⟩ => ⟨S1x2304, .f32⟩
  | .hbm, ⟨25, _⟩ => ⟨S1x64, .f32⟩
  | .hbm, ⟨26, _⟩ => ⟨S24576x2048, .bf16⟩
  | .hbm, ⟨27, _⟩ => ⟨S24576x128, .bf16⟩
  | .hbm, ⟨28, _⟩ => ⟨S24576x128, .bf16⟩
  | .hbm, ⟨29, _⟩ => ⟨S24576x16384, .fp8e4m3⟩
  | .hbm, ⟨30, _⟩ => ⟨S24576x1, .f32⟩
  | .local _ .vmem, ⟨0, _⟩ => ⟨S24576x16384, .bf16⟩
  | .local _ .vmem, ⟨1, _⟩ => ⟨S1x16384, .f32⟩
  | .local _ .vmem, ⟨2, _⟩ => ⟨S24576x1, .i32⟩
  | .local _ .vmem, ⟨3, _⟩ => ⟨S16384x2304, .fp8e4m3⟩
  | .local _ .vmem, ⟨4, _⟩ => ⟨S1x2304, .f32⟩
  | .local _ .vmem, ⟨5, _⟩ => ⟨S1x64, .f32⟩
  | .local _ .vmem, ⟨6, _⟩ => ⟨S24576x2048, .bf16⟩
  | .local _ .vmem, ⟨7, _⟩ => ⟨S24576x128, .bf16⟩
  | .local _ .vmem, ⟨8, _⟩ => ⟨S24576x128, .bf16⟩
  | .local _ .vmem, ⟨9, _⟩ => ⟨S24576x16384, .fp8e4m3⟩
  | .local _ .vmem, ⟨10, _⟩ => ⟨S24576x1, .f32⟩
  | _, _ => ⟨S3x8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24576x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24576x16384 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24576x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Loop.lean ====
module

public import proofs.«01_k».proof.Proof.Gen.KernelIdeal.Loops
public import Idealize.ShloMosaic.Lib.WholeRead
public import Idealize.ShloMosaic.Lib.WritesUnit
public import Idealize.ShloMosaic.Lib.VecWindow
public import Idealize.ShloMosaic.Lib.ValueIdxCore
public import Idealize.ShloMosaic.Lib.Pipeline.ValueKit

/-! # The quantising loop of the kernel body

The body quantises its block of 128 rows in four trips of 32 rows: trip `k` reads rows `32 k … 32 k + 31` of the
activations, and stores the codes and the scales of those rows. This module names what one trip stores
(`tripCodes`, `tripScale`), the two blocks after the loop (`codesBlk`, `scaleBlk`), proves one trip (`trip`) and
gives the loop's invariant (`quantLoop`): before trip `k` the rows below `32 k` hold the final values, and the other rows are as found. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The rows trip `k` reads of the block `x0`. -/
def slab (x0 : Vec F S128x16384 .bf16) (k : Fin k0_t1_loop.trips) : Vec F S32x16384 .bf16 :=
  View.ld x0 (Rect.unit (s := S128x16384) (k0_off1 k) S32x16384.size (k0_off1_inb k))

/-- The codes trip `k` stores. -/
def tripCodes (x0 : Vec F S128x16384 .bf16) (x1 : Vec F S1x16384 .f32) (k : Fin k0_t1_loop.trips) : Vec F S32x16384 .fp8e4m3 :=
  k0_pay13 (k0_pay3 (slab x0 k) x1) (k0_pay4 (slab x0 k) x1) (k0_pay5 (slab x0 k) x1) (k0_pay7 (slab x0 k) x1) (k0_pay8 (slab x0 k) x1) (k0_pay9 (slab x0 k) x1) k0_pay10 (k0_pay2 (slab x0 k) x1)

/-- The scales trip `k` stores. -/
def tripScale (x0 : Vec F S128x16384 .bf16) (x1 : Vec F S1x16384 .f32) (k : Fin k0_t1_loop.trips) : Vec F S32x1 .f32 :=
  k0_pay12 (k0_pay3 (slab x0 k) x1) (k0_pay4 (slab x0 k) x1) (k0_pay5 (slab x0 k) x1) (k0_pay7 (slab x0 k) x1) (k0_pay8 (slab x0 k) x1) (k0_pay9 (slab x0 k) x1) k0_pay10

theorem trips_eq : k0_t1_loop.trips = 4 := by decide

/-- The trip that quantises row `r` of the block. -/
def tripOf (r : Fin 128) : Fin k0_t1_loop.trips := ⟨r.val / 32, by have := r.isLt; rw [trips_eq]; omega⟩

/-- The codes of the whole block: row `r` is row `r % 32` of trip `r / 32`. -/
def codesBlk (x0 : Vec F S128x16384 .bf16) (x1 : Vec F S1x16384 .f32) : Vec F S128x16384 .fp8e4m3 :=
  fun y => tripCodes x0 x1 (tripOf (y 0)) (ValueIdx.ix2 (⟨(y 0).val % 32, Nat.mod_lt _ (by norm_num)⟩ : Fin 32) (y 1 : Fin 16384))

/-- The scales of the whole block. -/
def scaleBlk (x0 : Vec F S128x16384 .bf16) (x1 : Vec F S1x16384 .f32) : Vec F S128x1 .f32 :=
  fun y => tripScale x0 x1 (tripOf (y 0)) (ValueIdx.ix2 (⟨(y 0).val % 32, Nat.mod_lt _ (by norm_num)⟩ : Fin 32) (y 1 : Fin 1))

/-- `V` on the rows below `n`, `W` on the others. -/
def upTo {d : ℕ} {α : Type} (n : ℕ) (V W : (⟨2, ![128, d]⟩ : Shape).Idx → α) : (⟨2, ![128, d]⟩ : Shape).Idx → α :=
  fun y => if (y 0).val < n then V y else W y

theorem upTo_zero {d : ℕ} {α : Type} (V W : (⟨2, ![128, d]⟩ : Shape).Idx → α) : upTo 0 V W = W :=
  funext fun _ => if_neg (Nat.not_lt_zero _)

theorem upTo_all {d : ℕ} {α : Type} (V W : (⟨2, ![128, d]⟩ : Shape).Idx → α) : upTo 128 V W = V :=
  funext fun y => if_pos (y 0).isLt

/-- Storing trip `k`'s rows into a buffer that holds the final values below row `32 k` makes it hold them below row
`32 (k + 1)`. -/
theorem read_store_rows {sig : RefSig} {κ : Kind} {sp : Space} {e : EltTy} {Val : EltTy → Type} {d : ℕ}
    (v : View sig κ sp (⟨2, ![128, d]⟩ : Shape) e) (f : v.ty.Contents Val)
    (T : Fin k0_t1_loop.trips → (⟨2, ![32, d]⟩ : Shape).Idx → Val e) (V W : (⟨2, ![128, d]⟩ : Shape).Idx → Val e)
    (hV : ∀ y : (⟨2, ![128, d]⟩ : Shape).Idx, V y = T (tripOf (y 0)) (ValueIdx.ix2 (⟨(y 0).val % 32, Nat.mod_lt _ (by norm_num)⟩ : Fin 32) (y 1 : Fin d)))
    (k : Fin k0_t1_loop.trips) (hf : v.read Val f = upTo (32 * k.val) V W) (off : Fin 2 → ℕ) (hoff : off = ![32 * k.val, 0])
    (inb : ∀ a : Fin 2, off a + (![32, d] : Fin 2 → ℕ) a ≤ (![128, d] : Fin 2 → ℕ) a) :
    v.read Val (v.writes Val f [⟨Rect.unit (s := (⟨2, ![128, d]⟩ : Shape)) off ![32, d] inb, T k⟩]) = upTo (32 * (k.val + 1)) V W := by
  funext y
  by_cases h : 32 * k.val ≤ (y 0).val ∧ (y 0).val < 32 * k.val + 32
  · have hk : tripOf (y 0) = k := Fin.ext (by show (y 0).val / 32 = k.val; omega)
    refine (View.read_writes_cons_rows_of_mem v f inb (T k) [] y
      (ValueIdx.ix2 (⟨(y 0).val % 32, Nat.mod_lt _ (by norm_num)⟩ : Fin 32) (y 1 : Fin d)) hoff ?_ rfl).trans ?_
    · show (y 0).val = 32 * k.val + (y 0).val % 32
      omega
    · rw [upTo, if_pos (by omega), hV y, hk]
  · refine (View.read_writes_cons_rows_of_not_mem v f inb (T k) [] y hoff (W := 32) rfl (by omega)).trans ?_
    rw [View.writes_nil, hf]
    unfold upTo
    by_cases h2 : (y 0).val < 32 * k.val
    · rw [if_pos h2, if_pos (by omega)]
    · rw [if_neg h2, if_neg (by omega)]

set_option maxHeartbeats 1000000 in
/-- One trip: the codes and scales of its rows are stored, whatever the buffers held. -/
theorem trip (𝒱 : Variants) (c : Dev nD) (bd : Option 𝒱.V) (i : grid0.Coords) (arg1 : Memref sig .tc .vmem S128x16384 .bf16) (harg1 : arg1.IsWhole) (arg2 : Memref sig .tc .vmem S1x16384 .f32) (harg2 : arg2.IsWhole) (arg3 : Memref sig .tc .vmem S128x1 .i32) (harg3 : arg3.IsWhole) (arg4 : Memref sig .tc .vmem S16384x2304 .fp8e4m3) (harg4 : arg4.IsWhole) (arg5 : Memref sig .tc .vmem S1x2304 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16384 .fp8e4m3) (harg10 : arg10.IsWhole) (arg11 : Memref sig .tc .vmem S128x1 .f32) (harg11 : arg11.IsWhole) (arg12 : Memref sig .tc .vmem S32x16384 .f32) (harg12 : arg12.IsWhole)
    (x0 : Vec F S128x16384 .bf16) (x1 : Vec F S1x16384 .f32) (k : Fin k0_t1_loop.trips) (E : Set ℕ)
    (f10 : BufTy.Contents (Elt F) arg10.view.ty) (f11 : BufTy.Contents (Elt F) arg11.view.ty) (f12 : BufTy.Contents (Elt F) arg12.view.ty) :
    iprop((arg1.view.loc (c : Thread nD τ) ↦[arg1.view.set]{fullShare} harg1.unread x0) ∗ (arg2.view.loc (c : Thread nD τ) ↦[arg2.view.set]{fullShare} harg2.unread x1) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12))
      ⊢ wp (M := 𝕄G) frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k PUnit.unit)
          (fun _ => iprop((arg1.view.loc (c : Thread nD τ) ↦[arg1.view.set]{fullShare} harg1.unread x0) ∗ (arg2.view.loc (c : Thread nD τ) ↦[arg2.view.set]{fullShare} harg2.unread x1)
            ∗ (arg10.view.loc (c : Thread nD τ) ↦[arg10.view.set]{fullShare} arg10.view.writes (Elt F) f10 [⟨Rect.unit (k0_off1 k) S32x16384.size (k0_off1_inb k), tripCodes x0 x1 k⟩])
            ∗ (arg11.view.loc (c : Thread nD τ) ↦[arg11.view.set]{fullShare} arg11.view.writes (Elt F) f11 [⟨Rect.unit (k0_off2 k) S32x1.size (k0_off2_inb k), tripScale x0 x1 k⟩])
            ∗ (∃ f, (arg12.view.loc (c : Thread nD τ) ↦[arg12.view.set]{fullShare} f)))) := by
  have hk : k.val < 4 := Nat.lt_of_lt_of_le k.isLt k0_t1_abs.2.1
  have hs : View.readAt (Elt F) arg1.view (Rect.unit (s := S128x16384) (k0_off1 k) S32x16384.size (k0_off1_inb k)).toLoadRect (harg1.unread x0) = slab x0 k :=
    funext fun j => harg1.readAt_unread x0 _ j
  have hg : View.readAt (Elt F) arg2.view (Rect.unit (s := S1x16384) ![0, 0] S1x16384.size inb_S1x16384_S1x16384_0_0).toLoadRect (harg2.unread x1) = x1 := by
    refine (funext fun j => harg2.readAt_unread x1 _ j).trans ?_
    exact View.ld_unit_lit inb_S1x16384_S1x16384_0_0 x1 (by decide)
  have hw : ∀ L : List (View.Piece (Elt F) S32x16384 .f32), L = [⟨Rect.unit (s := S32x16384) ![0, 0] S32x16384.size inb_S32x16384_S32x16384_0_0, k0_pay2 (slab x0 k) x1⟩] →
      arg12.view.readCov L (Rect.unit (s := S32x16384) ![0, 0] S32x16384.size inb_S32x16384_S32x16384_0_0).toLoadRect = k0_pay2 (slab x0 k) x1 := by
    rintro _ rfl
    exact View.readCov_full _ _ _ _ _
  unfold k0_t1_body
  iintro ⟨HR_arg1, HR_arg2, HW_arg10, HW_arg11, HW_arg12⟩
  sl_exec
  sl_step
  isplitl [HR_arg1]; · iexact HR_arg1
  isplitl [HR_arg2]; · iexact HR_arg2
  delta trip.sl.r trip.sl.r_1 trip.sl.r_2 trip.sl.r_3 trip.sl.r_4 trip.sl.r_5 trip.sl.v223 trip.sl.HW_arg12_1
  rw [hw _ rfl]
  isplitl [HW_arg10]; · iexact HW_arg10
  isplitl [HW_arg11]; · iexact HW_arg11
  iexists _; iexact HW_arg12

/-- The stores of the codes by the trips before `k`, the last one first. -/
def codeStores (x0 : Vec F S128x16384 .bf16) (x1 : Vec F S1x16384 .f32) : ℕ → List (View.Piece (Elt F) S128x16384 .fp8e4m3)
  | 0 => []
  | k + 1 => if h : k < k0_t1_loop.trips then
      ⟨Rect.unit (k0_off1 ⟨k, h⟩) S32x16384.size (k0_off1_inb ⟨k, h⟩), tripCodes x0 x1 ⟨k, h⟩⟩ :: codeStores x0 x1 k
    else codeStores x0 x1 k

theorem codeStores_succ (x0 : Vec F S128x16384 .bf16) (x1 : Vec F S1x16384 .f32) (k : Fin k0_t1_loop.trips) :
    codeStores x0 x1 (k.val + 1)
      = ⟨Rect.unit (k0_off1 k) S32x16384.size (k0_off1_inb k), tripCodes x0 x1 k⟩ :: codeStores x0 x1 k.val := by
  rw [codeStores]; exact dif_pos k.isLt

theorem writes_codeStores_succ {sig : RefSig} {κ : Kind} {sp : Space} (v : View sig κ sp S128x16384 .fp8e4m3) (f : v.ty.Contents (Elt F))
    (x0 : Vec F S128x16384 .bf16) (x1 : Vec F S1x16384 .f32) (k : Fin k0_t1_loop.trips) :
    v.writes (Elt F) f (codeStores x0 x1 (k.val + 1))
      = v.writes (Elt F) (v.writes (Elt F) f (codeStores x0 x1 k.val))
          [⟨Rect.unit (k0_off1 k) S32x16384.size (k0_off1_inb k), tripCodes x0 x1 k⟩] := by
  conv_lhs => rw [codeStores_succ, ← List.singleton_append, View.writes_append]

/-- The stores of the scales by the trips before `k`, the last one first. -/
def scaleStores (x0 : Vec F S128x16384 .bf16) (x1 : Vec F S1x16384 .f32) : ℕ → List (View.Piece (Elt F) S128x1 .f32)
  | 0 => []
  | k + 1 => if h : k < k0_t1_loop.trips then
      ⟨Rect.unit (k0_off2 ⟨k, h⟩) S32x1.size (k0_off2_inb ⟨k, h⟩), tripScale x0 x1 ⟨k, h⟩⟩ :: scaleStores x0 x1 k
    else scaleStores x0 x1 k

theorem scaleStores_succ (x0 : Vec F S128x16384 .bf16) (x1 : Vec F S1x16384 .f32) (k : Fin k0_t1_loop.trips) :
    scaleStores x0 x1 (k.val + 1)
      = ⟨Rect.unit (k0_off2 k) S32x1.size (k0_off2_inb k), tripScale x0 x1 k⟩ :: scaleStores x0 x1 k.val := by
  rw [scaleStores]; exact dif_pos k.isLt

theorem writes_scaleStores_succ {sig : RefSig} {κ : Kind} {sp : Space} (v : View sig κ sp S128x1 .f32) (f : v.ty.Contents (Elt F))
    (x0 : Vec F S128x16384 .bf16) (x1 : Vec F S1x16384 .f32) (k : Fin k0_t1_loop.trips) :
    v.writes (Elt F) f (scaleStores x0 x1 (k.val + 1))
      = v.writes (Elt F) (v.writes (Elt F) f (scaleStores x0 x1 k.val))
          [⟨Rect.unit (k0_off2 k) S32x1.size (k0_off2_inb k), tripScale x0 x1 k⟩] := by
  conv_lhs => rw [scaleStores_succ, ← List.singleton_append, View.writes_append]

/-- After the trips before `n` the rows below `32 n` hold the final codes. -/
theorem read_codeStores {sig : RefSig} {κ : Kind} {sp : Space} (v : View sig κ sp S128x16384 .fp8e4m3) (f : v.ty.Contents (Elt F))
    (x0 : Vec F S128x16384 .bf16) (x1 : Vec F S1x16384 .f32) : ∀ n : ℕ, n ≤ k0_t1_loop.trips →
    v.read (Elt F) (v.writes (Elt F) f (codeStores x0 x1 n)) = upTo (32 * n) (codesBlk x0 x1) (v.read (Elt F) f)
  | 0, _ => by rw [Nat.mul_zero, upTo_zero, codeStores, View.writes_nil]
  | n + 1, h => by
    rw [codeStores_succ x0 x1 ⟨n, h⟩, ← List.singleton_append, View.writes_append]
    exact read_store_rows v _ (tripCodes x0 x1) (codesBlk x0 x1) _ (fun _ => rfl) ⟨n, h⟩
      (read_codeStores v f x0 x1 n (Nat.le_of_succ_le h)) _ (k0_off1_eq _) (k0_off1_inb ⟨n, h⟩)

/-- After the trips before `n` the rows below `32 n` hold the final scales. -/
theorem read_scaleStores {sig : RefSig} {κ : Kind} {sp : Space} (v : View sig κ sp S128x1 .f32) (f : v.ty.Contents (Elt F))
    (x0 : Vec F S128x16384 .bf16) (x1 : Vec F S1x16384 .f32) : ∀ n : ℕ, n ≤ k0_t1_loop.trips →
    v.read (Elt F) (v.writes (Elt F) f (scaleStores x0 x1 n)) = upTo (32 * n) (scaleBlk x0 x1) (v.read (Elt F) f)
  | 0, _ => by rw [Nat.mul_zero, upTo_zero, scaleStores, View.writes_nil]
  | n + 1, h => by
    rw [scaleStores_succ x0 x1 ⟨n, h⟩, ← List.singleton_append, View.writes_append]
    exact read_store_rows v _ (tripScale x0 x1) (scaleBlk x0 x1) _ (fun _ => rfl) ⟨n, h⟩
      (read_scaleStores v f x0 x1 n (Nat.le_of_succ_le h)) _ (k0_off2_eq _) (k0_off2_inb ⟨n, h⟩)

/-- After the loop the buffer of the codes reads as `codesBlk`, whatever it held. -/
theorem read_codes {sig : RefSig} {κ : Kind} {sp : Space} (v : View sig κ sp S128x16384 .fp8e4m3) (f : v.ty.Contents (Elt F))
    (x0 : Vec F S128x16384 .bf16) (x1 : Vec F S1x16384 .f32) :
    v.read (Elt F) (v.writes (Elt F) f (codeStores x0 x1 k0_t1_loop.trips)) = codesBlk x0 x1 := by
  rw [read_codeStores v f x0 x1 _ le_rfl, trips_eq]; exact upTo_all _ _

/-- After the loop the buffer of the scales reads as `scaleBlk`, whatever it held. -/
theorem read_scales {sig : RefSig} {κ : Kind} {sp : Space} (v : View sig κ sp S128x1 .f32) (f : v.ty.Contents (Elt F))
    (x0 : Vec F S128x16384 .bf16) (x1 : Vec F S1x16384 .f32) :
    v.read (Elt F) (v.writes (Elt F) f (scaleStores x0 x1 k0_t1_loop.trips)) = scaleBlk x0 x1 := by
  rw [read_scaleStores v f x0 x1 _ le_rfl, trips_eq]; exact upTo_all _ _

/-- The loop's invariant before trip `k`: the inputs as they are, the two outputs with the stores of the trips before `k`
over what they held, the scratch at some contents. -/
abbrev quantInv (c : Dev nD) (arg1 : Memref sig .tc .vmem S128x16384 .bf16) (harg1 : arg1.IsWhole) (arg2 : Memref sig .tc .vmem S1x16384 .f32) (harg2 : arg2.IsWhole) (arg3 : Memref sig .tc .vmem S128x1 .i32) (harg3 : arg3.IsWhole) (arg4 : Memref sig .tc .vmem S16384x2304 .fp8e4m3) (harg4 : arg4.IsWhole) (arg5 : Memref sig .tc .vmem S1x2304 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16384 .fp8e4m3) (harg10 : arg10.IsWhole) (arg11 : Memref sig .tc .vmem S128x1 .f32) (harg11 : arg11.IsWhole) (arg12 : Memref sig .tc .vmem S32x16384 .f32) (harg12 : arg12.IsWhole) (x0 : Vec F S128x16384 .bf16) (x1 : Vec F S1x16384 .f32)
    (G10 : BufTy.Contents (Elt F) arg10.view.ty) (G11 : BufTy.Contents (Elt F) arg11.view.ty) (k : ℕ) (_u : PUnit) : sProp 𝕄G :=
  iprop((arg1.view.loc (c : Thread nD τ) ↦[arg1.view.set]{fullShare} harg1.unread x0) ∗ (arg2.view.loc (c : Thread nD τ) ↦[arg2.view.set]{fullShare} harg2.unread x1)
    ∗ (∃ f, (arg10.view.loc (c : Thread nD τ) ↦[arg10.view.set]{fullShare} f) ∗ ⌜f = arg10.view.writes (Elt F) G10 (codeStores x0 x1 k)⌝)
    ∗ (∃ f, (arg11.view.loc (c : Thread nD τ) ↦[arg11.view.set]{fullShare} f) ∗ ⌜f = arg11.view.writes (Elt F) G11 (scaleStores x0 x1 k)⌝)
    ∗ (∃ f, (arg12.view.loc (c : Thread nD τ) ↦[arg12.view.set]{fullShare} f)))

set_option warn.classDefReducibility false in
/-- The loop by its invariant. -/
@[sl_loop] def quantLoop (𝒱 : Variants) (c : Dev nD) (bd : Option 𝒱.V) (E : Set ℕ) (i : grid0.Coords) (arg1 : Memref sig .tc .vmem S128x16384 .bf16) (harg1 : arg1.IsWhole) (arg2 : Memref sig .tc .vmem S1x16384 .f32) (harg2 : arg2.IsWhole) (arg3 : Memref sig .tc .vmem S128x1 .i32) (harg3 : arg3.IsWhole) (arg4 : Memref sig .tc .vmem S16384x2304 .fp8e4m3) (harg4 : arg4.IsWhole) (arg5 : Memref sig .tc .vmem S1x2304 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16384 .fp8e4m3) (harg10 : arg10.IsWhole) (arg11 : Memref sig .tc .vmem S128x1 .f32) (harg11 : arg11.IsWhole) (arg12 : Memref sig .tc .vmem S32x16384 .f32) (harg12 : arg12.IsWhole)
    (x0 : Vec F S128x16384 .bf16) (x1 : Vec F S1x16384 .f32)
    (G10 : BufTy.Contents (Elt F) arg10.view.ty) (G11 : BufTy.Contents (Elt F) arg11.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 where
  inv := quantInv (F := F) c arg1 harg1 arg2 harg2 arg3 harg3 arg4 harg4 arg5 harg5 arg6 harg6 arg7 harg7 arg8 harg8 arg9 harg9 arg10 harg10 arg11 harg11 arg12 harg12 x0 x1 G10 G11
  step k acc := by
    iintro ⟨H1, H2, ⟨%f10, H10, %h10⟩, ⟨%f11, H11, %h11⟩, ⟨%f12, H12⟩⟩
    iapply (wp_wand_r Idealize.ShloMosaic.frame (wpE (defs₀ (F := F)) 𝒱 (c : Thread nD τ) bd) E)
    isplitl [H1 H2 H10 H11 H12]
    · iapply (trip (F := F) 𝒱 c bd i arg1 harg1 arg2 harg2 arg3 harg3 arg4 harg4 arg5 harg5 arg6 harg6 arg7 harg7 arg8 harg8 arg9 harg9 arg10 harg10 arg11 harg11 arg12 harg12 x0 x1 k E f10 f11 f12)
      isplitl [H1]; · iexact H1
      isplitl [H2]; · iexact H2
      isplitl [H10]; · iexact H10
      isplitl [H11]; · iexact H11
      iexact H12
    · iintro %_ ⟨H1, H2, H10, H11, H12⟩
      isplitl [H1]; · iexact H1
      isplitl [H2]; · iexact H2
      isplitl [H10]
      · iexists _; isplitl [H10]; · iexact H10
        ipureintro
        rw [h10, writes_codeStores_succ]
      isplitl [H11]
      · iexists _; isplitl [H11]; · iexact H11
        ipureintro
        rw [h11, writes_scaleStores_succ]
      iexact H12

end Cert.KernelIdeal.Hand

end
-- ==== Proof.Body.lean ====
module

public import proofs.«01_k».proof.Proof.Loop
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block's projection: the quantised rows times the weights, under both scales. -/
def yB (x0 : Vec F S128x16384 .bf16) (x1 : Vec F S1x16384 .f32) (x3 : Vec F S16384x2304 .fp8e4m3) (x4 : Vec F S1x2304 .f32) : Vec F S128x2304 .f32 :=
  k0_pay17 (codesBlk x0 x1) x3 (scaleBlk x0 x1) x4

/-- The cosines of the block's rotary angles. -/
def cosB (x2 : Vec F S128x1 .i32) (x5 : Vec F S1x128 .f32) : Vec F S128x128 .f32 := k0_pay15 x2 x5

/-- The sines of the block's rotary angles. -/
def sinB (x2 : Vec F S128x1 .i32) (x5 : Vec F S1x128 .f32) : Vec F S128x128 .f32 := k0_pay16 x2 x5

/-- The sixteen heads' stores into the query block, the last one first. -/
def qPieces (h0 : Vec F S128x128 .bf16) (h1 : Vec F S128x128 .bf16) (h2 : Vec F S128x128 .bf16) (h3 : Vec F S128x128 .bf16) (h4 : Vec F S128x128 .bf16) (h5 : Vec F S128x128 .bf16) (h6 : Vec F S128x128 .bf16) (h7 : Vec F S128x128 .bf16) (h8 : Vec F S128x128 .bf16) (h9 : Vec F S128x128 .bf16) (h10 : Vec F S128x128 .bf16) (h11 : Vec F S128x128 .bf16) (h12 : Vec F S128x128 .bf16) (h13 : Vec F S128x128 .bf16) (h14 : Vec F S128x128 .bf16) (h15 : Vec F S128x128 .bf16) : List (View.Piece (Elt F) S128x2048 .bf16) :=
  [⟨Rect.unit (s := S128x2048) ![0, 1920] S128x128.size inb_S128x2048_S128x128_0_1920, h15⟩,
    ⟨Rect.unit (s := S128x2048) ![0, 1792] S128x128.size inb_S128x2048_S128x128_0_1792, h14⟩,
    ⟨Rect.unit (s := S128x2048) ![0, 1664] S128x128.size inb_S128x2048_S128x128_0_1664, h13⟩,
    ⟨Rect.unit (s := S128x2048) ![0, 1536] S128x128.size inb_S128x2048_S128x128_0_1536, h12⟩,
    ⟨Rect.unit (s := S128x2048) ![0, 1408] S128x128.size inb_S128x2048_S128x128_0_1408, h11⟩,
    ⟨Rect.unit (s := S128x2048) ![0, 1280] S128x128.size inb_S128x2048_S128x128_0_1280, h10⟩,
    ⟨Rect.unit (s := S128x2048) ![0, 1152] S128x128.size inb_S128x2048_S128x128_0_1152, h9⟩,
    ⟨Rect.unit (s := S128x2048) ![0, 1024] S128x128.size inb_S128x2048_S128x128_0_1024, h8⟩,
    ⟨Rect.unit (s := S128x2048) ![0, 896] S128x128.size inb_S128x2048_S128x128_0_896, h7⟩,
    ⟨Rect.unit (s := S128x2048) ![0, 768] S128x128.size inb_S128x2048_S128x128_0_768, h6⟩,
    ⟨Rect.unit (s := S128x2048) ![0, 640] S128x128.size inb_S128x2048_S128x128_0_640, h5⟩,
    ⟨Rect.unit (s := S128x2048) ![0, 512] S128x128.size inb_S128x2048_S128x128_0_512, h4⟩,
    ⟨Rect.unit (s := S128x2048) ![0, 384] S128x128.size inb_S128x2048_S128x128_0_384, h3⟩,
    ⟨Rect.unit (s := S128x2048) ![0, 256] S128x128.size inb_S128x2048_S128x128_0_256, h2⟩,
    ⟨Rect.unit (s := S128x2048) ![0, 128] S128x128.size inb_S128x2048_S128x128_0_128, h1⟩,
    ⟨Rect.unit (s := S128x2048) ![0, 0] S128x128.size inb_S128x2048_S128x128_0_0, h0⟩]

/-- The sixteen heads' stores tile the query block, so they cover it. -/
theorem qPieces_cover (h0 : Vec F S128x128 .bf16) (h1 : Vec F S128x128 .bf16) (h2 : Vec F S128x128 .bf16) (h3 : Vec F S128x128 .bf16) (h4 : Vec F S128x128 .bf16) (h5 : Vec F S128x128 .bf16) (h6 : Vec F S128x128 .bf16) (h7 : Vec F S128x128 .bf16) (h8 : Vec F S128x128 .bf16) (h9 : Vec F S128x128 .bf16) (h10 : Vec F S128x128 .bf16) (h11 : Vec F S128x128 .bf16) (h12 : Vec F S128x128 .bf16) (h13 : Vec F S128x128 .bf16) (h14 : Vec F S128x128 .bf16) (h15 : Vec F S128x128 .bf16) (y : S128x2048.Idx) :
    ∃ pc ∈ qPieces h0 h1 h2 h3 h4 h5 h6 h7 h8 h9 h10 h11 h12 h13 h14 h15, y ∈ pc.1.set :=
  View.cover_of_tiled (qPieces h0 h1 h2 h3 h4 h5 h6 h7 h8 h9 h10 h11 h12 h13 h14 h15) S128x128.size (by rfl) y

/-- The query block the body leaves, as its sixteen stores. -/
def outQ (x0 : Vec F S128x16384 .bf16) (x1 : Vec F S1x16384 .f32) (x2 : Vec F S128x1 .i32) (x3 : Vec F S16384x2304 .fp8e4m3) (x4 : Vec F S1x2304 .f32) (x5 : Vec F S1x128 .f32) : Vec F S128x2048 .bf16 :=
  View.canon (qPieces
    (k0_pay18 x2 x5 (codesBlk x0 x1) x3 (scaleBlk x0 x1) x4)
    (k0_pay19 (cosB x2 x5) (sinB x2 x5) (yB x0 x1 x3 x4))
    (k0_pay20 (cosB x2 x5) (sinB x2 x5) (yB x0 x1 x3 x4))
    (k0_pay21 (cosB x2 x5) (sinB x2 x5) (yB x0 x1 x3 x4))
    (k0_pay22 (cosB x2 x5) (sinB x2 x5) (yB x0 x1 x3 x4))
    (k0_pay23 (cosB x2 x5) (sinB x2 x5) (yB x0 x1 x3 x4))
    (k0_pay27 (sinB x2 x5) (k0_pay25 (cosB x2 x5) (yB x0 x1 x3 x4)) (k0_pay26 (yB x0 x1 x3 x4)))
    (k0_pay28 (cosB x2 x5) (sinB x2 x5) (yB x0 x1 x3 x4))
    (k0_pay29 (cosB x2 x5) (sinB x2 x5) (yB x0 x1 x3 x4))
    (k0_pay30 (cosB x2 x5) (sinB x2 x5) (yB x0 x1 x3 x4))
    (k0_pay31 (cosB x2 x5) (sinB x2 x5) (yB x0 x1 x3 x4))
    (k0_pay32 (cosB x2 x5) (sinB x2 x5) (yB x0 x1 x3 x4))
    (k0_pay33 (cosB x2 x5) (sinB x2 x5) (yB x0 x1 x3 x4))
    (k0_pay34 (cosB x2 x5) (sinB x2 x5) (yB x0 x1 x3 x4))
    (k0_pay35 (cosB x2 x5) (sinB x2 x5) (yB x0 x1 x3 x4))
    (k0_pay36 (cosB x2 x5) (sinB x2 x5) (yB x0 x1 x3 x4)))

/-- The key block the body leaves. -/
def outK (x0 : Vec F S128x16384 .bf16) (x1 : Vec F S1x16384 .f32) (x2 : Vec F S128x1 .i32) (x3 : Vec F S16384x2304 .fp8e4m3) (x4 : Vec F S1x2304 .f32) (x5 : Vec F S1x128 .f32) : Vec F S128x128 .bf16 :=
  k0_pay37 (cosB x2 x5) (sinB x2 x5) (yB x0 x1 x3 x4)

/-- The value block the body leaves. -/
def outV (x0 : Vec F S128x16384 .bf16) (x1 : Vec F S1x16384 .f32) (x3 : Vec F S16384x2304 .fp8e4m3) (x4 : Vec F S1x2304 .f32) : Vec F S128x128 .bf16 :=
  k0_pay38 (yB x0 x1 x3 x4)

set_option maxHeartbeats 1000000 in
/-- The body: from the six inputs' blocks it leaves the five output blocks named above and the inputs as they were. -/
theorem kernelRun (c : Dev nD) (i : grid0.Coords) (arg1 : Memref sig .tc .vmem S128x16384 .bf16) (harg1 : arg1.IsWhole) (arg2 : Memref sig .tc .vmem S1x16384 .f32) (harg2 : arg2.IsWhole) (arg3 : Memref sig .tc .vmem S128x1 .i32) (harg3 : arg3.IsWhole) (arg4 : Memref sig .tc .vmem S16384x2304 .fp8e4m3) (harg4 : arg4.IsWhole) (arg5 : Memref sig .tc .vmem S1x2304 .f32) (harg5 : arg5.IsWhole) (arg6 : Memref sig .tc .vmem S1x128 .f32) (harg6 : arg6.IsWhole) (arg7 : Memref sig .tc .vmem S128x2048 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x16384 .fp8e4m3) (harg10 : arg10.IsWhole) (arg11 : Memref sig .tc .vmem S128x1 .f32) (harg11 : arg11.IsWhole) (arg12 : Memref sig .tc .vmem S32x16384 .f32) (harg12 : arg12.IsWhole)
    (x0 : Vec F S128x16384 .bf16) (x1 : Vec F S1x16384 .f32) (x2 : Vec F S128x1 .i32) (x3 : Vec F S16384x2304 .fp8e4m3) (x4 : Vec F S1x2304 .f32) (x5 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outQ x0 x1 x2 x3 x4 x5) ∗ owns (c : Thread nD τ) arg8 fullShare (outK x0 x1 x2 x3 x4 x5) ∗ owns (c : Thread nD τ) arg9 fullShare (outV x0 x1 x3 x4) ∗ owns (c : Thread nD τ) arg10 fullShare (codesBlk x0 x1) ∗ owns (c : Thread nD τ) arg11 fullShare (scaleBlk x0 x1) ∗ (∃ d, owns (c : Thread nD τ) arg12 fullShare d)) -∗ K ⟨⟩))
      ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12) K := by
  have h3 : View.readAt (Elt F) arg3.view (Rect.unit (s := S128x1) ![0, 0] S128x1.size inb_S128x1_S128x1_0_0).toLoadRect (harg3.unread x2) = x2 :=
    (funext fun j => harg3.readAt_unread x2 _ j).trans (View.ld_unit_lit inb_S128x1_S128x1_0_0 x2 (by decide))
  have h4 : View.readAt (Elt F) arg4.view (Rect.unit (s := S16384x2304) ![0, 0] S16384x2304.size inb_S16384x2304_S16384x2304_0_0).toLoadRect (harg4.unread x3) = x3 :=
    (funext fun j => harg4.readAt_unread x3 _ j).trans (View.ld_unit_lit inb_S16384x2304_S16384x2304_0_0 x3 (by decide))
  have h5 : View.readAt (Elt F) arg5.view (Rect.unit (s := S1x2304) ![0, 0] S1x2304.size inb_S1x2304_S1x2304_0_0).toLoadRect (harg5.unread x4) = x4 :=
    (funext fun j => harg5.readAt_unread x4 _ j).trans (View.ld_unit_lit inb_S1x2304_S1x2304_0_0 x4 (by decide))
  have h6 : View.readAt (Elt F) arg6.view (Rect.unit (s := S1x128) ![0, 0] S1x128.size inb_S1x128_S1x128_0_0).toLoadRect (harg6.unread x5) = x5 :=
    (funext fun j => harg6.readAt_unread x5 _ j).trans (View.ld_unit_lit inb_S1x128_S1x128_0_0 x5 (by decide))
  have h10 : arg10.view.readCov (codeStores x0 x1 (Scf.trips k0_t1_loop.lb k0_t1_loop.ub k0_t1_loop.st)) (Rect.unit (s := S128x16384) ![0, 0] S128x16384.size inb_S128x16384_S128x16384_0_0).toLoadRect = codesBlk x0 x1 :=
    (View.readAt_full _ _ _).trans (read_codes arg10.view _ x0 x1)
  have h11 : arg11.view.readCov (scaleStores x0 x1 (Scf.trips k0_t1_loop.lb k0_t1_loop.ub k0_t1_loop.st)) (Rect.unit (s := S128x1) ![0, 0] S128x1.size inb_S128x1_S128x1_0_0).toLoadRect = scaleBlk x0 x1 :=
    (View.readAt_full _ _ _).trans (read_scales arg11.view _ x0 x1)
  simp only [cc0_rmsnorm_fp8_qkv_rope_eq_skeleton]; unfold cc0_rmsnorm_fp8_qkv_rope_skel
  simp only [k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact View.read_writes_eq_canon _ _ _ (qPieces_cover _ _ _ _ _ _ _ _ _ _ _ _ _ _ _ _)
  isplitl [H7]
  · iexists _; isplitr; swap; · iexact H7
    ipureintro; exact View.read_writes_full arg8.view f7 _ _ []
  isplitl [H8]
  · iexists _; isplitr; swap; · iexact H8
    ipureintro; exact View.read_writes_full arg9.view f8 _ _ []
  isplitl [H9]
  · iexists _; isplitr; swap; · iexact H9
    ipureintro; exact read_codes arg10.view _ x0 x1
  isplitl [H10]
  · iexists _; isplitr; swap; · iexact H10
    ipureintro; exact read_scales arg11.view _ x0 x1
  iexists _, _; isplitr; swap; · iexact HS0
  ipureintro; rfl

end Cert.KernelIdeal.Hand

end
-- ==== Proof.Run.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's scratch: a whole scoped buffer, passed beside the windows. -/
abbrev scM : Memref sig .tc .vmem S32x16384 .f32 := Memref.whole cc0_scratch0

/-- What is held across the grid's points beside the windows: the scratch at some contents and the generator's register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The pipeline's proof data on core `c`: the arrays as the region finds them; after the body at point `t` each input's
buffer holds its block and each output's the block the body computes from the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outQ (iblk m c 0 t) (iblk m c 1 t) (iblk m c 2 t) (iblk m c 3 t) (iblk m c 4 t) (iblk m c 5 t)
    | ⟨7, _⟩ => outK (iblk m c 0 t) (iblk m c 1 t) (iblk m c 2 t) (iblk m c 3 t) (iblk m c 4 t) (iblk m c 5 t)
    | ⟨8, _⟩ => outV (iblk m c 0 t) (iblk m c 1 t) (iblk m c 3 t) (iblk m c 4 t)
    | ⟨9, _⟩ => codesBlk (iblk m c 0 t) (iblk m c 1 t)
    | ⟨10, _⟩ => scaleBlk (iblk m c 0 t) (iblk m c 1 t)
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outQ (iblk m c 0 t) (iblk m c 1 t) (iblk m c 2 t) (iblk m c 3 t) (iblk m c 4 t) (iblk m c 5 t) := by dsimp only [dats]
theorem after0_7 (c : Dev nD) (t : Fin cfg0.N) : (dats m 0 c).after 7 t = outK (iblk m c 0 t) (iblk m c 1 t) (iblk m c 2 t) (iblk m c 3 t) (iblk m c 4 t) (iblk m c 5 t) := by dsimp only [dats]
theorem after0_8 (c : Dev nD) (t : Fin cfg0.N) : (dats m 0 c).after 8 t = outV (iblk m c 0 t) (iblk m c 1 t) (iblk m c 3 t) (iblk m c 4 t) := by dsimp only [dats]
theorem after0_9 (c : Dev nD) (t : Fin cfg0.N) : (dats m 0 c).after 9 t = codesBlk (iblk m c 0 t) (iblk m c 1 t) := by dsimp only [dats]
theorem after0_10 (c : Dev nD) (t : Fin cfg0.N) : (dats m 0 c).after 10 t = scaleBlk (iblk m c 0 t) (iblk m c 1 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The body at any point of the grid, from `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9, after0_10]
  iintro ⟨⟨HS, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS]; · iexact HS
  iintro ⟨H0, H1, H2, H3, H4, H5, H6, H7, H8, H9, H10, HS⟩
  isplitl [HS HP]
  · isplitl [HS]; · iexact HS
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every weakly fair execution of @main terminates, every array of the pipeline ends at what its proof data says,
every other unscoped buffer as the region found it, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim of the kernel's program, at any float instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.SameText.lean ====
module

public import proofs.«01_k».proof.Proof.Run
public import proofs.«01_k».proof.Proof.Gen.Kernel.Frame

@[expose] public section

/-! The program `Kernel` and its idealization `KernelIdeal` are the same text (no rewrite was applied), stated over any
float instance, so what was shown of the one holds of the other. -/

set_option maxRecDepth 65536

noncomputable section

namespace Cert.Kernel.Hand

open Idealize.ShloMosaic Idealize.ShloMosaic.TcCoe Idealize.SL.Sem

variable {F : FTy → Type} [FloatOps F]

/-- The two programs' kernel bodies are the same function. -/
theorem body_eq : @Cert.Kernel.cc0_rmsnorm_fp8_qkv_rope F _ Cert.Kernel.Gen.facts
    = @Cert.KernelIdeal.cc0_rmsnorm_fp8_qkv_rope F _ Cert.KernelIdeal.Gen.facts := rfl

/-- The two programs' tables of kernel bodies are the same. -/
theorem defs₀_eq : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) => rfl
  | ⟨_ + 1, h⟩, _ => exact absurd h (Nat.not_lt.2 (Nat.le_add_left _ _))

/-- The two programs' body tables, pipelines included, are the same. -/
theorem defs_eq : Cert.Kernel.defs (F := F) = Cert.KernelIdeal.defs (F := F) :=
  congrArg (Pipeline.defs (Cert.KernelIdeal.pcfgs (F := F))) defs₀_eq

variable (m : (ℓ : Loc Cert.Kernel.nD Cert.Kernel.τ Cert.Kernel.sig) → Buf (Elt F) ℓ) (ρ : Dev Cert.Kernel.nD → PrngReg)

open Cert.Kernel in
/-- The frame claim of the program `Kernel`, at any float instance. -/
theorem frame : θ_run Cert.Kernel.defs (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_eq]
  exact Cert.KernelIdeal.Hand.frame (F := F) m ρ

end Cert.Kernel.Hand

end
-- ==== Proof.Rows.lean ====
module

public import Idealize.ShloMosaic.Lib.Pointwise

@[expose] public section

set_option maxRecDepth 16384

noncomputable section

/-!
The mathematics of one row, over the extended reals, that both programs compute: the normalised row, its absolute maximum,
the exponent of its power-of-two scale, its codes, one lane of its projection, and the rotary rotation of one head.
-/

namespace Cert.Rows

open Idealize.ShloMosaic

/-- The normalised row: `x` over its root mean square, times the gain. -/
def rowH (x g : Fin 16384 → EReal) (j : Fin 16384) : EReal :=
  x j * Ideal.rsqrt (Ideal.div (∑ k, x k * x k) (Ideal.ofBits FTy.f32 0x46800000#32) + Ideal.ofBits FTy.f32 0x358637BD#32) * g j

/-- The largest absolute value of the normalised row. -/
def rowMax (x g : Fin 16384 → EReal) : EReal :=
  Finset.univ.fold max (Ideal.ofBits FTy.f32 0xFF800000#32) fun k => FloatOps.absf (F := Ideal) (φ := FTy.f32) (rowH x g k)

/-- The row's absolute maximum over the largest code. -/
def rowArg (x g : Fin 16384 → EReal) : EReal := rowMax x g * Ideal.ofBits FTy.f32 0x3B124925#32

/-- The exponent of the row's scale. -/
def rowExp (x g : Fin 16384 → EReal) : BitVec 32 :=
  if rowMax x g = 0 then 0#32
  else Scalar.select
    (IntOp.ori (BitVec.ofBool (decide (rowArg x g = 0))) (BitVec.ofBool (decide (rowArg x g = Ideal.ofBits FTy.f32 0x7F800000#32))))
    0#32
    (IntOp.addi (FloatOps.fptosi (F := Ideal) (φ := FTy.f32) 32 (Ideal.liftRound Int.floor
      (Ideal.div (Ideal.log (rowArg x g)) (Ideal.log (Ideal.ofBits FTy.f32 0x40000000#32))))) 1#32)

/-- The row's scale, two to its exponent. -/
def rowScale (x g : Fin 16384 → EReal) : EReal :=
  FloatOps.exp2 (F := Ideal) (φ := FTy.f32) (FloatOps.sitofp FTy.f32 (rowExp x g))

/-- The row's codes: the normalised row over its scale, clipped. -/
def rowCode (x g : Fin 16384 → EReal) (j : Fin 16384) : EReal :=
  min (Ideal.ofBits FTy.f32 0x43E00000#32) (max (Ideal.ofBits FTy.f32 0xC3E00000#32)
    (rowH x g j * FloatOps.exp2 (F := Ideal) (φ := FTy.f32) (FloatOps.sitofp FTy.f32 (IntOp.subi 0#32 (rowExp x g)))))

/-- One lane of the row's projection: the codes against the column `w`, under the row's scale and the column's scale `s`. -/
def rowY (x g w : Fin 16384 → EReal) (s : EReal) : EReal := (∑ k, rowCode x g k * w k) * rowScale x g * s

/-- The rotary angle of position `p` at frequency `f`. -/
def angle (p : BitVec 32) (f : EReal) : EReal := FloatOps.sitofp (F := Ideal) FTy.f32 p * f

/-- Lane `l` of a head `y` rotated by the angles `a`, of which there is one per lane pair `(l, l + 64)`. -/
def rope (a : Fin 64 → EReal) (y : Fin 128 → EReal) (l : Fin 128) : EReal :=
  if h : l.val < 64 then
    y l * Ideal.cos (a ⟨l.val, h⟩) - y ⟨l.val + 64, by omega⟩ * Ideal.sin (a ⟨l.val, h⟩)
  else
    y l * Ideal.cos (a ⟨l.val - 64, by omega⟩) + y ⟨l.val - 64, by omega⟩ * Ideal.sin (a ⟨l.val - 64, by omega⟩)

/-- The same rotation written with one roll by half a head and a sine whose first half is negated. -/
theorem rope_roll (a : Fin 64 → EReal) (y : Fin 128 → EReal) (l : Fin 128) (b : EReal)
    (hb : b = a ⟨l.val % 64, Nat.mod_lt _ (by norm_num)⟩) :
    y l * Ideal.cos b + y ⟨(l.val + 128 - 64) % 128, Nat.mod_lt _ (by norm_num)⟩
        * Scalar.select (IntOp.cmpi CmpIPredicate.slt (BitVec.ofNat 32 l.val) 64#32) (0 - Ideal.sin b) (Ideal.sin b)
      = rope a y l := by
  subst hb
  have hl := l.isLt
  by_cases h : l.val < 64
  · have h1 : (⟨l.val % 64, Nat.mod_lt _ (by norm_num)⟩ : Fin 64) = ⟨l.val, h⟩ := Fin.ext (Nat.mod_eq_of_lt h)
    have h2 : (⟨(l.val + 128 - 64) % 128, Nat.mod_lt _ (by norm_num)⟩ : Fin 128) = ⟨l.val + 64, by omega⟩ :=
      Fin.ext (by show (l.val + 128 - 64) % 128 = l.val + 64; omega)
    have h3 : IntOp.cmpi CmpIPredicate.slt (BitVec.ofNat 32 l.val) 64#32 = 1#1 := by
      exact (by decide +kernel : ∀ l : Fin 128, l.val < 64 → IntOp.cmpi CmpIPredicate.slt (BitVec.ofNat 32 l.val) 64#32 = 1#1) l h
    rw [h1, h2, h3, rope, dif_pos h]
    show _ + _ * (0 - _) = _
    rw [zero_sub, mul_neg, sub_eq_add_neg]
  · have h1 : (⟨l.val % 64, Nat.mod_lt _ (by norm_num)⟩ : Fin 64) = ⟨l.val - 64, by omega⟩ :=
      Fin.ext (by show l.val % 64 = l.val - 64; omega)
    have h2 : (⟨(l.val + 128 - 64) % 128, Nat.mod_lt _ (by norm_num)⟩ : Fin 128) = ⟨l.val - 64, by omega⟩ :=
      Fin.ext (by show (l.val + 128 - 64) % 128 = l.val - 64; omega)
    have h3 : IntOp.cmpi CmpIPredicate.slt (BitVec.ofNat 32 l.val) 64#32 = 0#1 := by
      exact (by decide +kernel : ∀ l : Fin 128, ¬ l.val < 64 → IntOp.cmpi CmpIPredicate.slt (BitVec.ofNat 32 l.val) 64#32 = 0#1) l h
    rw [h1, h2, h3, rope, dif_neg h]
    rfl

end Cert.Rows

end
-- ==== Proof.Exponent.lean ====
module

public import proofs.«01_k».proof.Proof.Rows
public import Idealize.ShloMosaic.Lib.IdealHost

@[expose] public section

set_option maxRecDepth 16384

noncomputable section

/-!
The kernel checks the rounded-down binary logarithm against the number itself and moves it by one where it is off. Over the extended
reals it is never off, so the exponent is the row's.
-/

namespace Cert.Rows

open Idealize.ShloMosaic

/-- The binary logarithm of `v`, rounded down. -/
def floorLog (v : EReal) : EReal :=
  Ideal.liftRound Int.floor (Ideal.div (Ideal.log v) (Ideal.log (Ideal.ofBits FTy.f32 0x40000000#32)))

/-- The same after the check: one less where `v` is below two to it, one more where `v` is not below twice that. -/
def checkedLog (v : EReal) : EReal :=
  Scalar.select (FloatOps.cmpf (F := Ideal) (φ := FTy.f32) .olt v (Ideal.exp2 (floorLog v))) (floorLog v - 1)
    (Scalar.select (FloatOps.cmpf (F := Ideal) (φ := FTy.f32) .oge v (Ideal.ofBits FTy.f32 0x40000000#32 * Ideal.exp2 (floorLog v)))
      (floorLog v + 1) (floorLog v))

theorem ofBits_two : Ideal.ofBits FTy.f32 0x40000000#32 = ((2 : ℝ) : EReal) := by
  simp [Ideal.ofBits, Ideal.ieee, -EReal.coe_mul]; norm_num

theorem ofBits_inf : Ideal.ofBits FTy.f32 0x7F800000#32 = ⊤ := by
  simp [Ideal.ofBits, Ideal.ieee]

theorem ofBits_inv448_nonneg : 0 ≤ Ideal.ofBits FTy.f32 0x3B124925#32 := by
  simp [Ideal.ofBits, Ideal.ieee, -EReal.coe_mul]

/-- The rounded-down logarithm of a positive real. -/
theorem floorLog_coe {r : ℝ} (hr : 0 < r) : floorLog (r : EReal) = ((⌊Real.log r / Real.log 2⌋ : ℝ) : EReal) := by
  have h2 : Real.log 2 ≠ 0 := (Real.log_pos one_lt_two).ne'
  rw [floorLog, ofBits_two, Ideal.log_coe, Ideal.log_coe, if_neg (not_le.mpr hr), if_neg (by norm_num), Ideal.div_coe h2,
    ← EReal.coe_mul, Ideal.liftRound_coe, mul_one_div]

/-- Over the reals the check changes nothing. -/
theorem checkedLog_eq {v : EReal} (h0 : 0 < v) (ht : v ≠ ⊤) : checkedLog v = floorLog v := by
  induction v with
  | bot => simp at h0
  | top => exact absurd rfl ht
  | coe r =>
    have hr : 0 < r := by exact_mod_cast h0
    have h2 : 0 < Real.log 2 := Real.log_pos one_lt_two
    have hl : (2 : ℝ) ^ (⌊Real.log r / Real.log 2⌋ : ℝ) ≤ r := by
      rw [Real.rpow_def_of_pos two_pos, ← Real.le_log_iff_exp_le hr, mul_comm, ← le_div_iff₀ h2]
      exact Int.floor_le _
    have hu : r < 2 * (2 : ℝ) ^ (⌊Real.log r / Real.log 2⌋ : ℝ) := by
      have h : r < (2 : ℝ) ^ ((⌊Real.log r / Real.log 2⌋ : ℝ) + 1) := by
        rw [Real.rpow_def_of_pos two_pos, ← Real.log_lt_iff_lt_exp hr, mul_comm, ← div_lt_iff₀ h2]
        exact Int.lt_floor_add_one _
      rwa [Real.rpow_add two_pos, Real.rpow_one, mul_comm] at h
    have e : Ideal.exp2 (floorLog (r : EReal)) = (((2 : ℝ) ^ (⌊Real.log r / Real.log 2⌋ : ℝ) : ℝ) : EReal) := by
      rw [floorLog_coe hr]; rfl
    have c1 : FloatOps.cmpf (F := Ideal) (φ := FTy.f32) .olt (r : EReal) (Ideal.exp2 (floorLog (r : EReal))) = 0#1 := by
      show BitVec.ofBool (decide ((r : EReal) < _)) = 0#1
      rw [e, decide_eq_false (by rw [EReal.coe_lt_coe_iff]; exact not_lt.mpr hl)]
      rfl
    have c2 : FloatOps.cmpf (F := Ideal) (φ := FTy.f32) .oge (r : EReal)
        (Ideal.ofBits FTy.f32 0x40000000#32 * Ideal.exp2 (floorLog (r : EReal))) = 0#1 := by
      show BitVec.ofBool (decide (_ ≤ (r : EReal))) = 0#1
      rw [e, ofBits_two, ← EReal.coe_mul, decide_eq_false (by rw [EReal.coe_le_coe_iff]; exact not_le.mpr hu)]
      rfl
    rw [checkedLog, c1, c2]
    rfl

/-- The largest absolute value is not negative. -/
theorem rowMax_nonneg (x g : Fin 16384 → EReal) : 0 ≤ rowMax x g := by
  refine le_trans ?_ (Finset.le_fold_max _ |>.mpr (Or.inr ⟨0, Finset.mem_univ _, le_rfl⟩))
  show 0 ≤ max _ _
  rcases le_total 0 (rowH x g 0) with h | h
  · exact le_max_of_le_left h
  · exact le_max_of_le_right (EReal.neg_nonneg.mpr h)

theorem rowArg_nonneg (x g : Fin 16384 → EReal) : 0 ≤ rowArg x g :=
  EReal.mul_nonneg (rowMax_nonneg x g) ofBits_inv448_nonneg

/-- The exponent as the kernel selects it, with the check, is the row's. -/
theorem rowExp_checked (x g : Fin 16384 → EReal) :
    (if rowMax x g = 0 then 0#32
      else Scalar.select
        (IntOp.ori (BitVec.ofBool (decide (rowArg x g = 0))) (BitVec.ofBool (decide (rowArg x g = Ideal.ofBits FTy.f32 0x7F800000#32))))
        0#32 (IntOp.addi (FloatOps.fptosi (F := Ideal) (φ := FTy.f32) 32 (checkedLog (rowArg x g))) 1#32))
      = rowExp x g := by
  unfold rowExp
  by_cases h0 : rowArg x g = 0
  · rw [decide_eq_true h0]
    cases decide (rowArg x g = Ideal.ofBits FTy.f32 0x7F800000#32) <;> rfl
  by_cases ht : rowArg x g = ⊤
  · rw [ofBits_inf, decide_eq_true ht, decide_eq_false h0]
    rfl
  rw [checkedLog_eq (lt_of_le_of_ne (rowArg_nonneg x g) (Ne.symm h0)) ht]
  rfl

end Cert.Rows

end
-- ==== Proof.KernelRows.lean ====
module

public import proofs.«01_k».proof.Proof.Exponent
public import proofs.«01_k».proof.Proof.Gen.KernelIdeal.Skeleton

@[expose] public section

set_option maxRecDepth 16384

noncomputable section

namespace Cert.KernelIdeal.Hand

open Cert.KernelIdeal Cert.KernelIdeal.Gen Cert.Rows
open Idealize.ShloMosaic Idealize.ShloMosaic.TcCoe

/-- The normalised slab at `(r, j)` is the normalised row `r` at `j`. -/
theorem h_at (x : FVec Ideal S32x16384 .bf16) (g : FVec Ideal S1x16384 .f32) (r : Fin 32) (j : Fin 16384) :
    k0_pay1 (F := Ideal) x g (ix2 r j) = rowH (fun k => x (ix2 r k)) (fun k => g (ix2 0 k)) j := by
  pointwise [k0_pay1]
  rfl

/-- The slab as it is loaded back is the normalised slab. -/
theorem loaded_at (x : FVec Ideal S32x16384 .bf16) (g : FVec Ideal S1x16384 .f32) (r : Fin 32) (j : Fin 16384) :
    k0_pay2 (F := Ideal) x g (ix2 r j) = rowH (fun k => x (ix2 r k)) (fun k => g (ix2 0 k)) j := by
  pointwise [k0_pay2]
  exact h_at x g r j

/-- The row maxima of the slab. -/
theorem max_at (x : FVec Ideal S32x16384 .bf16) (g : FVec Ideal S1x16384 .f32) (r : Fin 32) (u : Fin 1) :
    k0_pay3 (F := Ideal) x g (ix2 r u) = rowMax (fun k => x (ix2 r k)) (fun k => g (ix2 0 k)) := by
  pointwise [k0_pay3]
  unfold rowMax
  exact congrArg (fun f => Finset.univ.fold max (Ideal.ofBits FTy.f32 0xFF800000#32) f)
    (funext fun k => congrArg (FloatOps.absf (F := Ideal) (φ := FTy.f32)) (h_at x g r k))

/-- The row maxima over the largest code. -/
theorem arg_at (x : FVec Ideal S32x16384 .bf16) (g : FVec Ideal S1x16384 .f32) (r : Fin 32) (u : Fin 1) :
    k0_pay4 (F := Ideal) x g (ix2 r u) = rowArg (fun k => x (ix2 r k)) (fun k => g (ix2 0 k)) := by
  pointwise [k0_pay4, max_at]
  rfl

/-- Their rounded-down binary logarithms. -/
theorem log_at (x : FVec Ideal S32x16384 .bf16) (g : FVec Ideal S1x16384 .f32) (r : Fin 32) (u : Fin 1) :
    k0_pay5 (F := Ideal) x g (ix2 r u) = floorLog (rowArg (fun k => x (ix2 r k)) (fun k => g (ix2 0 k))) := by
  pointwise [k0_pay5, arg_at]
  rfl

/-- Two to those. -/
theorem pow_at (x : FVec Ideal S32x16384 .bf16) (g : FVec Ideal S1x16384 .f32) (r : Fin 32) (u : Fin 1) :
    k0_pay6 (F := Ideal) x g (ix2 r u) = Ideal.exp2 (floorLog (rowArg (fun k => x (ix2 r k)) (fun k => g (ix2 0 k)))) := by
  pointwise [k0_pay6, log_at]
  rfl

/-- Whether the maximum is below that. -/
theorem below_at (x : FVec Ideal S32x16384 .bf16) (g : FVec Ideal S1x16384 .f32) (r : Fin 32) (u : Fin 1) :
    k0_pay7 (F := Ideal) x g (ix2 r u)
      = FloatOps.cmpf (F := Ideal) (φ := FTy.f32) .olt (rowArg (fun k => x (ix2 r k)) (fun k => g (ix2 0 k))) (Ideal.exp2 (floorLog (rowArg (fun k => x (ix2 r k)) (fun k => g (ix2 0 k))))) := by
  pointwise [k0_pay7, arg_at, pow_at]

/-- The logarithm less one. -/
theorem less_at (x : FVec Ideal S32x16384 .bf16) (g : FVec Ideal S1x16384 .f32) (r : Fin 32) (u : Fin 1) :
    k0_pay8 (F := Ideal) x g (ix2 r u) = floorLog (rowArg (fun k => x (ix2 r k)) (fun k => g (ix2 0 k))) - 1 := by
  pointwise [k0_pay8, log_at]

/-- Whether the maximum is not below twice that. -/
theorem above_at (x : FVec Ideal S32x16384 .bf16) (g : FVec Ideal S1x16384 .f32) (r : Fin 32) (u : Fin 1) :
    k0_pay9 (F := Ideal) x g (ix2 r u)
      = FloatOps.cmpf (F := Ideal) (φ := FTy.f32) .oge (rowArg (fun k => x (ix2 r k)) (fun k => g (ix2 0 k)))
          (Ideal.ofBits FTy.f32 0x40000000#32 * Ideal.exp2 (floorLog (rowArg (fun k => x (ix2 r k)) (fun k => g (ix2 0 k))))) := by
  pointwise [k0_pay9, arg_at, pow_at]

/-- The selected exponent of the slab's row is the row's exponent. -/
theorem sel_at (x : FVec Ideal S32x16384 .bf16) (g : FVec Ideal S1x16384 .f32) (r : Fin 32) (u : Fin 1) :
    k0_pay11 (F := Ideal) (k0_pay3 (F := Ideal) x g) (k0_pay4 (F := Ideal) x g) (k0_pay5 (F := Ideal) x g) (k0_pay7 (F := Ideal) x g) (k0_pay8 (F := Ideal) x g) (k0_pay9 (F := Ideal) x g) (k0_pay10 (F := Ideal)) (ix2 r u)
      = rowExp (fun k => x (ix2 r k)) (fun k => g (ix2 0 k)) := by
  refine Eq.trans ?_ (rowExp_checked (fun k => x (ix2 r k)) (fun k => g (ix2 0 k)))
  unfold checkedLog
  rw [← below_at x g r u, ← above_at x g r u]
  pointwise [k0_pay11, k0_pay10, max_at, arg_at, log_at, less_at]

/-- The slab's scales are its rows' scales. -/
theorem scale_at (x : FVec Ideal S32x16384 .bf16) (g : FVec Ideal S1x16384 .f32) (r : Fin 32) (u : Fin 1) :
    k0_pay12 (F := Ideal) (k0_pay3 (F := Ideal) x g) (k0_pay4 (F := Ideal) x g) (k0_pay5 (F := Ideal) x g) (k0_pay7 (F := Ideal) x g) (k0_pay8 (F := Ideal) x g) (k0_pay9 (F := Ideal) x g) (k0_pay10 (F := Ideal)) (ix2 r u)
      = rowScale (fun k => x (ix2 r k)) (fun k => g (ix2 0 k)) := by
  pointwise [k0_pay12, sel_at]
  rfl

/-- The slab's codes are its rows' codes. -/
theorem code_at (x : FVec Ideal S32x16384 .bf16) (g : FVec Ideal S1x16384 .f32) (r : Fin 32) (j : Fin 16384) :
    k0_pay13 (F := Ideal) (k0_pay3 (F := Ideal) x g) (k0_pay4 (F := Ideal) x g) (k0_pay5 (F := Ideal) x g) (k0_pay7 (F := Ideal) x g) (k0_pay8 (F := Ideal) x g) (k0_pay9 (F := Ideal) x g) (k0_pay10 (F := Ideal)) (k0_pay2 (F := Ideal) x g) (ix2 r j)
      = rowCode (fun k => x (ix2 r k)) (fun k => g (ix2 0 k)) j := by
  pointwise [k0_pay13, sel_at, loaded_at]
  rfl

/-- The projection of a block of codes. -/
theorem proj_at (codes : FVec Ideal S128x16384 .fp8e4m3) (w : FVec Ideal S16384x2304 .fp8e4m3) (s : FVec Ideal S128x1 .f32)
    (ws : FVec Ideal S1x2304 .f32) (r : Fin 128) (j : Fin 2304) :
    k0_pay17 (F := Ideal) codes w s ws (ix2 r j)
      = (∑ k, codes (ix2 r k) * w (ix2 k j)) * s (ix2 r 0) * ws (ix2 0 j) := by
  pointwise [k0_pay17]

/-- The cosine of a lane's angle. -/
theorem cos_at (p : IVec S128x1 32) (f : FVec Ideal S1x128 .f32) (r : Fin 128) (l : Fin 128) :
    k0_pay15 (F := Ideal) p f (ix2 r l) = Ideal.cos (angle (p (ix2 r 0)) (f (ix2 0 l))) := by
  pointwise [k0_pay15, k0_pay14]
  rfl

/-- The sine of a lane's angle, negated in the first half of the lanes. -/
theorem sin_at (p : IVec S128x1 32) (f : FVec Ideal S1x128 .f32) (r : Fin 128) (l : Fin 128) :
    k0_pay16 (F := Ideal) p f (ix2 r l)
      = Scalar.select (IntOp.cmpi CmpIPredicate.slt (BitVec.ofNat 32 l.val) 64#32)
          (0 - Ideal.sin (angle (p (ix2 r 0)) (f (ix2 0 l)))) (Ideal.sin (angle (p (ix2 r 0)) (f (ix2 0 l)))) := by
  pointwise [k0_pay16, k0_pay14]
  rfl

end Cert.KernelIdeal.Hand

end
-- ==== Proof.KernelHeads.lean ====
module

public import proofs.«01_k».proof.Proof.KernelRows
public import proofs.«01_k».proof.Proof.Body

@[expose] public section

set_option maxRecDepth 16384

noncomputable section

namespace Cert.KernelIdeal.Hand

open Cert.KernelIdeal Cert.KernelIdeal.Gen Cert.Rows
open Idealize.ShloMosaic Idealize.ShloMosaic.TcCoe

/-- Row `i` of the slab trip `i / 32` reads is row `i` of the block. -/
theorem slab_at (x0 : FVec Ideal S128x16384 .bf16) (i : Fin 128) (k : Fin 16384) :
    slab (F := Ideal) x0 (tripOf i) (ix2 (⟨i.val % 32, Nat.mod_lt _ (by norm_num)⟩ : Fin 32) k) = x0 (ix2 i k) := by
  have hoff : k0_off1 (tripOf i) = ![32 * (i.val / 32), 0] := k0_off1_eq (tripOf i)
  refine congrArg x0 (funext fun a => Fin.ext ?_)
  have ha := congrFun hoff a
  refine (congrArg (fun o : ℕ => o + 1 * (ix2 (⟨i.val % 32, Nat.mod_lt _ (by norm_num)⟩ : Fin 32) k a).val) ha).trans ?_
  fin_cases a
  · show 32 * (i.val / 32) + 1 * (i.val % 32) = i.val
    omega
  · show 0 + 1 * k.val = k.val
    omega

/-- The block's codes are its rows' codes. -/
theorem codesBlk_at (x0 : FVec Ideal S128x16384 .bf16) (x1 : FVec Ideal S1x16384 .f32) (i : Fin 128) (j : Fin 16384) :
    codesBlk (F := Ideal) x0 x1 (ix2 i j) = rowCode (fun k => x0 (ix2 i k)) (fun k => x1 (ix2 0 k)) j :=
  (code_at (slab (F := Ideal) x0 (tripOf i)) x1 ⟨i.val % 32, Nat.mod_lt _ (by norm_num)⟩ j).trans
    (congrArg (fun f => rowCode f (fun k => x1 (ix2 0 k)) j) (funext fun k => slab_at x0 i k))

/-- The block's scales are its rows' scales. -/
theorem scaleBlk_at (x0 : FVec Ideal S128x16384 .bf16) (x1 : FVec Ideal S1x16384 .f32) (i : Fin 128) (u : Fin 1) :
    scaleBlk (F := Ideal) x0 x1 (ix2 i u) = rowScale (fun k => x0 (ix2 i k)) (fun k => x1 (ix2 0 k)) :=
  (scale_at (slab (F := Ideal) x0 (tripOf i)) x1 ⟨i.val % 32, Nat.mod_lt _ (by norm_num)⟩ u).trans
    (congrArg (fun f => rowScale f (fun k => x1 (ix2 0 k))) (funext fun k => slab_at x0 i k))

/-- The block's projection is its rows' projection. -/
theorem yB_at (x0 : FVec Ideal S128x16384 .bf16) (x1 : FVec Ideal S1x16384 .f32) (x3 : FVec Ideal S16384x2304 .fp8e4m3)
    (x4 : FVec Ideal S1x2304 .f32) (i : Fin 128) (j : Fin 2304) :
    yB (F := Ideal) x0 x1 x3 x4 (ix2 i j)
      = rowY (fun k => x0 (ix2 i k)) (fun k => x1 (ix2 0 k)) (fun k => x3 (ix2 k j)) (x4 (ix2 0 j)) := by
  refine (proj_at _ x3 _ x4 i j).trans ?_
  rw [scaleBlk_at]
  simp only [codesBlk_at]
  rfl

/-- A head rotated as the kernel does it: the lane times its cosine, plus the lane half a head away times its signed sine. -/
def headRoll (c s : FVec Ideal S128x128 .f32) (y : FVec Ideal S128x2304 .f32) (o : ℕ) (ho : o + 128 ≤ 2304) (r : Fin 128) (l : Fin 128) : EReal :=
  y (ix2 r ⟨o + l.val, by omega⟩) * c (ix2 r l)
    + y (ix2 r ⟨o + (l.val + 128 - 64) % 128, by omega⟩) * s (ix2 r l)

/-- A head's roll under the block's cosines and signed sines is its rotation. -/
theorem headRoll_eq (p : IVec S128x1 32) (f : FVec Ideal S1x128 .f32) (y : FVec Ideal S128x2304 .f32) (o : ℕ) (ho : o + 128 ≤ 2304)
    (a : Fin 64 → EReal) (r : Fin 128) (l : Fin 128)
    (ha : ∀ l : Fin 128, f (ix2 0 l) = a ⟨l.val % 64, Nat.mod_lt _ (by norm_num)⟩) :
    headRoll (cosB (F := Ideal) p f) (sinB (F := Ideal) p f) y o ho r l
      = rope (fun j => angle (p (ix2 r 0)) (a j)) (fun i => y (ix2 r ⟨o + i.val, by omega⟩)) l := by
  unfold headRoll cosB sinB
  rw [cos_at, sin_at]
  exact rope_roll (fun j => angle (p (ix2 r 0)) (a j)) (fun i => y (ix2 r ⟨o + i.val, by omega⟩)) l _
    (congrArg (angle (p (ix2 r 0))) (ha l))

/-- Head 0. -/
theorem head0_at (p : IVec S128x1 32) (f : FVec Ideal S1x128 .f32) (codes : FVec Ideal S128x16384 .fp8e4m3) (w : FVec Ideal S16384x2304 .fp8e4m3)
    (s : FVec Ideal S128x1 .f32) (ws : FVec Ideal S1x2304 .f32) (r l : Fin 128) :
    k0_pay18 (F := Ideal) p f codes w s ws (ix2 r l)
      = headRoll (cosB (F := Ideal) p f) (sinB (F := Ideal) p f) (k0_pay17 (F := Ideal) codes w s ws) 0 (by norm_num) r l := by
  pointwise [k0_pay18]
  unfold headRoll
  rw [show (⟨0 + l.val, by omega⟩ : Fin 2304) = ⟨l.val, by omega⟩ from Fin.ext (Nat.zero_add _),
    show (⟨0 + (l.val + 128 - 64) % 128, by omega⟩ : Fin 2304) = ⟨(l.val + 128 - 64) % 128, by omega⟩ from Fin.ext (Nat.zero_add _)]
  rfl

/-- Head 1. -/
theorem head1_at (c s : FVec Ideal S128x128 .f32) (y : FVec Ideal S128x2304 .f32) (r l : Fin 128) :
    k0_pay19 (F := Ideal) c s y (ix2 r l) = headRoll c s y 128 (by norm_num) r l := by
  pointwise [k0_pay19]
  rfl

/-- Head 2. -/
theorem head2_at (c s : FVec Ideal S128x128 .f32) (y : FVec Ideal S128x2304 .f32) (r l : Fin 128) :
    k0_pay20 (F := Ideal) c s y (ix2 r l) = headRoll c s y 256 (by norm_num) r l := by
  pointwise [k0_pay20]
  rfl

/-- Head 3. -/
theorem head3_at (c s : FVec Ideal S128x128 .f32) (y : FVec Ideal S128x2304 .f32) (r l : Fin 128) :
    k0_pay21 (F := Ideal) c s y (ix2 r l) = headRoll c s y 384 (by norm_num) r l := by
  pointwise [k0_pay21]
  rfl

/-- Head 4. -/
theorem head4_at (c s : FVec Ideal S128x128 .f32) (y : FVec Ideal S128x2304 .f32) (r l : Fin 128) :
    k0_pay22 (F := Ideal) c s y (ix2 r l) = headRoll c s y 512 (by norm_num) r l := by
  pointwise [k0_pay22]
  rfl

/-- Head 5. -/
theorem head5_at (c s : FVec Ideal S128x128 .f32) (y : FVec Ideal S128x2304 .f32) (r l : Fin 128) :
    k0_pay23 (F := Ideal) c s y (ix2 r l) = headRoll c s y 640 (by norm_num) r l := by
  pointwise [k0_pay23]
  rfl

/-- Head 6. -/
theorem head6_at (c s : FVec Ideal S128x128 .f32) (y : FVec Ideal S128x2304 .f32) (r l : Fin 128) :
    k0_pay27 (F := Ideal) s (k0_pay25 (F := Ideal) c y) (k0_pay26 (F := Ideal) y) (ix2 r l) = headRoll c s y 768 (by norm_num) r l := by
  pointwise [k0_pay27, k0_pay25, k0_pay26, k0_pay24]
  rfl

/-- Head 7. -/
theorem head7_at (c s : FVec Ideal S128x128 .f32) (y : FVec Ideal S128x2304 .f32) (r l : Fin 128) :
    k0_pay28 (F := Ideal) c s y (ix2 r l) = headRoll c s y 896 (by norm_num) r l := by
  pointwise [k0_pay28]
  rfl

/-- Head 8. -/
theorem head8_at (c s : FVec Ideal S128x128 .f32) (y : FVec Ideal S128x2304 .f32) (r l : Fin 128) :
    k0_pay29 (F := Ideal) c s y (ix2 r l) = headRoll c s y 1024 (by norm_num) r l := by
  pointwise [k0_pay29]
  rfl

/-- Head 9. -/
theorem head9_at (c s : FVec Ideal S128x128 .f32) (y : FVec Ideal S128x2304 .f32) (r l : Fin 128) :
    k0_pay30 (F := Ideal) c s y (ix2 r l) = headRoll c s y 1152 (by norm_num) r l := by
  pointwise [k0_pay30]
  rfl

/-- Head 10. -/
theorem head10_at (c s : FVec Ideal S128x128 .f32) (y : FVec Ideal S128x2304 .f32) (r l : Fin 128) :
    k0_pay31 (F := Ideal) c s y (ix2 r l) = headRoll c s y 1280 (by norm_num) r l := by
  pointwise [k0_pay31]
  rfl

/-- Head 11. -/
theorem head11_at (c s : FVec Ideal S128x128 .f32) (y : FVec Ideal S128x2304 .f32) (r l : Fin 128) :
    k0_pay32 (F := Ideal) c s y (ix2 r l) = headRoll c s y 1408 (by norm_num) r l := by
  pointwise [k0_pay32]
  rfl

/-- Head 12. -/
theorem head12_at (c s : FVec Ideal S128x128 .f32) (y : FVec Ideal S128x2304 .f32) (r l : Fin 128) :
    k0_pay33 (F := Ideal) c s y (ix2 r l) = headRoll c s y 1536 (by norm_num) r l := by
  pointwise [k0_pay33]
  rfl

/-- Head 13. -/
theorem head13_at (c s : FVec Ideal S128x128 .f32) (y : FVec Ideal S128x2304 .f32) (r l : Fin 128) :
    k0_pay34 (F := Ideal) c s y (ix2 r l) = headRoll c s y 1664 (by norm_num) r l := by
  pointwise [k0_pay34]
  rfl

/-- Head 14. -/
theorem head14_at (c s : FVec Ideal S128x128 .f32) (y : FVec Ideal S128x2304 .f32) (r l : Fin 128) :
    k0_pay35 (F := Ideal) c s y (ix2 r l) = headRoll c s y 1792 (by norm_num) r l := by
  pointwise [k0_pay35]
  rfl

/-- Head 15. -/
theorem head15_at (c s : FVec Ideal S128x128 .f32) (y : FVec Ideal S128x2304 .f32) (r l : Fin 128) :
    k0_pay36 (F := Ideal) c s y (ix2 r l) = headRoll c s y 1920 (by norm_num) r l := by
  pointwise [k0_pay36]
  rfl

/-- The key head. -/
theorem head16_at (c s : FVec Ideal S128x128 .f32) (y : FVec Ideal S128x2304 .f32) (r l : Fin 128) :
    k0_pay37 (F := Ideal) c s y (ix2 r l) = headRoll c s y 2048 (by norm_num) r l := by
  pointwise [k0_pay37]
  rfl

/-- The value head. -/
theorem head17_at (y : FVec Ideal S128x2304 .f32) (r l : Fin 128) :
    k0_pay38 (F := Ideal) y (ix2 r l) = y (ix2 r ⟨2176 + l.val, by omega⟩) := by
  pointwise [k0_pay38]

end Cert.KernelIdeal.Hand

end
-- ==== Proof.Arrays.lean ====
module

public import proofs.«01_k».proof.Proof.Rows

@[expose] public section

set_option maxRecDepth 16384

noncomputable section

/-!
The five results as arrays, each entry a function of its own row of the inputs.
-/

namespace Cert.Rows

open Idealize.ShloMosaic

/-- A matrix of extended reals. -/
abbrev Mat (n d : ℕ) : Type := (⟨2, ![n, d]⟩ : Shape).Idx → EReal

/-- Rotary frequency `n`: one over ten thousand to the `2 n / 128`. -/
def freqAt (n : ℕ) : EReal :=
  Ideal.div 1 (Ideal.pow (Ideal.ofBits FTy.f32 0x461C4000#32)
    (Ideal.div (Ideal.ofBits FTy.f32 0x40000000#32 * FloatOps.sitofp (F := Ideal) FTy.f32 (BitVec.ofNat 32 n)) (Ideal.ofBits FTy.f32 0x43000000#32)))

/-- The projection of row `r`, lane `j`. -/
def yAt {n : ℕ} (x : Mat n 16384) (g : Mat 1 16384) (w : Mat 16384 2304) (ws : Mat 1 2304) (r : Fin n) (j : Fin 2304) : EReal :=
  rowY (fun k => x (ix2 r k)) (fun k => g (ix2 0 k)) (fun k => w (ix2 k j)) (ws (ix2 0 j))

/-- The query result: head `j / 128` of the row's projection, rotated, at lane `j % 128`. -/
def qAt {n : ℕ} (x : Mat n 16384) (g : Mat 1 16384) (p : (⟨2, ![n, 1]⟩ : Shape).Idx → BitVec 32) (w : Mat 16384 2304) (ws : Mat 1 2304)
    (f : Mat 1 64) (r : Fin n) (j : Fin 2048) : EReal :=
  rope (fun i => angle (p (ix2 r 0)) (f (ix2 0 i))) (fun i => yAt x g w ws r ⟨128 * (j.val / 128) + i.val, by omega⟩)
    ⟨j.val % 128, Nat.mod_lt _ (by norm_num)⟩

/-- The key result: lanes 2048 to 2175 of the row's projection, rotated. -/
def kAt {n : ℕ} (x : Mat n 16384) (g : Mat 1 16384) (p : (⟨2, ![n, 1]⟩ : Shape).Idx → BitVec 32) (w : Mat 16384 2304) (ws : Mat 1 2304)
    (f : Mat 1 64) (r : Fin n) (l : Fin 128) : EReal :=
  rope (fun i => angle (p (ix2 r 0)) (f (ix2 0 i))) (fun i => yAt x g w ws r ⟨2048 + i.val, by omega⟩) l

/-- The value result: lanes 2176 to 2303 of the row's projection. -/
def vAt {n : ℕ} (x : Mat n 16384) (g : Mat 1 16384) (w : Mat 16384 2304) (ws : Mat 1 2304) (r : Fin n) (l : Fin 128) : EReal :=
  yAt x g w ws r ⟨2176 + l.val, by omega⟩

/-- The codes. -/
def cAt {n : ℕ} (x : Mat n 16384) (g : Mat 1 16384) (r : Fin n) (j : Fin 16384) : EReal :=
  rowCode (fun k => x (ix2 r k)) (fun k => g (ix2 0 k)) j

/-- The scales. -/
def sAt {n : ℕ} (x : Mat n 16384) (g : Mat 1 16384) (r : Fin n) : EReal :=
  rowScale (fun k => x (ix2 r k)) (fun k => g (ix2 0 k))

/-- The projection depends on its own row of the matrix only. -/
theorem yAt_congr {n d : ℕ} {x : Mat n 16384} {X : Mat d 16384} (g : Mat 1 16384) (w : Mat 16384 2304) (ws : Mat 1 2304) {r : Fin n} {R : Fin d}
    (hx : ∀ k, x (ix2 r k) = X (ix2 R k)) (j : Fin 2304) : yAt x g w ws r j = yAt X g w ws R j := by
  unfold yAt; rw [funext hx]

/-- So do the query, … -/
theorem qAt_congr {n d : ℕ} {x : Mat n 16384} {X : Mat d 16384} (g : Mat 1 16384) {p : (⟨2, ![n, 1]⟩ : Shape).Idx → BitVec 32}
    {P : (⟨2, ![d, 1]⟩ : Shape).Idx → BitVec 32} (w : Mat 16384 2304) (ws : Mat 1 2304) (f : Mat 1 64) {r : Fin n} {R : Fin d}
    (hx : ∀ k, x (ix2 r k) = X (ix2 R k)) (hp : p (ix2 r 0) = P (ix2 R 0)) (j : Fin 2048) :
    qAt x g p w ws f r j = qAt X g P w ws f R j := by
  unfold qAt; rw [hp]; simp only [yAt_congr g w ws hx]

/-- … the key, … -/
theorem kAt_congr {n d : ℕ} {x : Mat n 16384} {X : Mat d 16384} (g : Mat 1 16384) {p : (⟨2, ![n, 1]⟩ : Shape).Idx → BitVec 32}
    {P : (⟨2, ![d, 1]⟩ : Shape).Idx → BitVec 32} (w : Mat 16384 2304) (ws : Mat 1 2304) (f : Mat 1 64) {r : Fin n} {R : Fin d}
    (hx : ∀ k, x (ix2 r k) = X (ix2 R k)) (hp : p (ix2 r 0) = P (ix2 R 0)) (l : Fin 128) :
    kAt x g p w ws f r l = kAt X g P w ws f R l := by
  unfold kAt; rw [hp]; simp only [yAt_congr g w ws hx]

/-- … the codes … -/
theorem cAt_congr {n d : ℕ} {x : Mat n 16384} {X : Mat d 16384} (g : Mat 1 16384) {r : Fin n} {R : Fin d}
    (hx : ∀ k, x (ix2 r k) = X (ix2 R k)) (j : Fin 16384) : cAt x g r j = cAt X g R j := by
  unfold cAt; rw [funext hx]

/-- … and the scale. -/
theorem sAt_congr {n d : ℕ} {x : Mat n 16384} {X : Mat d 16384} (g : Mat 1 16384) {r : Fin n} {R : Fin d}
    (hx : ∀ k, x (ix2 r k) = X (ix2 R k)) : sAt x g r = sAt X g R := by
  unfold sAt; rw [funext hx]

end Cert.Rows

end
-- ==== Proof.KernelBlocks.lean ====
module

public import proofs.«01_k».proof.Proof.KernelHeads
public import proofs.«01_k».proof.Proof.Arrays
public import Idealize.ShloMosaic.Lib.Pipeline.ValueKit

@[expose] public section

set_option maxRecDepth 16384

noncomputable section

namespace Cert.KernelIdeal.Hand

open Cert.KernelIdeal Cert.KernelIdeal.Gen Cert.Rows
open Idealize.ShloMosaic Idealize.ShloMosaic.TcCoe

/-- A head's roll depends only on the values of its offset, row and lane. -/
theorem headRoll_congr (c s : FVec Ideal S128x128 .f32) (y : FVec Ideal S128x2304 .f32) {o o' : ℕ} (ho : o + 128 ≤ 2304) (ho' : o' + 128 ≤ 2304)
    {r r' l l' : Fin 128} (h : o = o') (hr : r = r') (hl : l = l') : headRoll c s y o ho r l = headRoll c s y o' ho' r' l' := by
  subst h; subst hr; subst hl; rfl

/-- A store of one head at its offset is, where it holds `(i, j)`, the roll of the head `j` lies in. -/
theorem tile_of_head (c s : FVec Ideal S128x128 .f32) (y : FVec Ideal S128x2304 .f32) (o : ℕ) (ho : o + 128 ≤ 2304) (hd : o % 128 = 0)
    (w : FVec Ideal S128x128 .bf16) (hw : ∀ r l : Fin 128, w (ix2 r l) = headRoll c s y o ho r l) (i : Fin 128) (j : Fin 2048) :
    View.TileAt (Val := Elt Ideal) (S := S128x2048) (e := .bf16) (ix2 i j) ![0, o] S128x128.size w
      (headRoll c s y (128 * (j.val / 128)) (by omega) i ⟨j.val % 128, Nat.mod_lt _ (by norm_num)⟩) := by
  intro x hx
  have h0 : i.val = 0 + (x 0).val := hx 0
  have h1 : j.val = o + (x 1).val := hx 1
  have hl : (x 1).val < 128 := (x 1).isLt
  have hxe : (x : S128x128.Idx) = ix2 (x 0 : Fin 128) (x 1 : Fin 128) := eq_ix2 x
  refine (congrArg w hxe).trans ((hw (x 0) (x 1)).trans ?_)
  refine headRoll_congr c s y ho _ ?_ (Fin.ext ?_) (Fin.ext ?_)
  · omega
  · omega
  · show (x 1).val = j.val % 128
    omega

/-- The query block at `(i, j)` is the roll of head `j / 128`. -/
theorem outQ_roll (x0 : FVec Ideal S128x16384 .bf16) (x1 : FVec Ideal S1x16384 .f32) (x2 : IVec S128x1 32) (x3 : FVec Ideal S16384x2304 .fp8e4m3)
    (x4 : FVec Ideal S1x2304 .f32) (x5 : FVec Ideal S1x128 .f32) (i : Fin 128) (j : Fin 2048) :
    outQ (F := Ideal) x0 x1 x2 x3 x4 x5 (ix2 i j)
      = headRoll (cosB (F := Ideal) x2 x5) (sinB (F := Ideal) x2 x5) (yB (F := Ideal) x0 x1 x3 x4) (128 * (j.val / 128)) (by omega) i
          ⟨j.val % 128, Nat.mod_lt _ (by norm_num)⟩ := by
  unfold outQ
  refine View.canon_eq_of_allAt _ _ _ (qPieces_cover _ _ _ _ _ _ _ _ _ _ _ _ _ _ _ _ _) ?_
  unfold qPieces
  refine View.allAt_cons_unit _ _ _ _ _ (tile_of_head _ _ _ 1920 (by norm_num) (by norm_num) _ (fun r l => head15_at _ _ _ r l) i j) ?_
  refine View.allAt_cons_unit _ _ _ _ _ (tile_of_head _ _ _ 1792 (by norm_num) (by norm_num) _ (fun r l => head14_at _ _ _ r l) i j) ?_
  refine View.allAt_cons_unit _ _ _ _ _ (tile_of_head _ _ _ 1664 (by norm_num) (by norm_num) _ (fun r l => head13_at _ _ _ r l) i j) ?_
  refine View.allAt_cons_unit _ _ _ _ _ (tile_of_head _ _ _ 1536 (by norm_num) (by norm_num) _ (fun r l => head12_at _ _ _ r l) i j) ?_
  refine View.allAt_cons_unit _ _ _ _ _ (tile_of_head _ _ _ 1408 (by norm_num) (by norm_num) _ (fun r l => head11_at _ _ _ r l) i j) ?_
  refine View.allAt_cons_unit _ _ _ _ _ (tile_of_head _ _ _ 1280 (by norm_num) (by norm_num) _ (fun r l => head10_at _ _ _ r l) i j) ?_
  refine View.allAt_cons_unit _ _ _ _ _ (tile_of_head _ _ _ 1152 (by norm_num) (by norm_num) _ (fun r l => head9_at _ _ _ r l) i j) ?_
  refine View.allAt_cons_unit _ _ _ _ _ (tile_of_head _ _ _ 1024 (by norm_num) (by norm_num) _ (fun r l => head8_at _ _ _ r l) i j) ?_
  refine View.allAt_cons_unit _ _ _ _ _ (tile_of_head _ _ _ 896 (by norm_num) (by norm_num) _ (fun r l => head7_at _ _ _ r l) i j) ?_
  refine View.allAt_cons_unit _ _ _ _ _ (tile_of_head _ _ _ 768 (by norm_num) (by norm_num) _ (fun r l => head6_at _ _ _ r l) i j) ?_
  refine View.allAt_cons_unit _ _ _ _ _ (tile_of_head _ _ _ 640 (by norm_num) (by norm_num) _ (fun r l => head5_at _ _ _ r l) i j) ?_
  refine View.allAt_cons_unit _ _ _ _ _ (tile_of_head _ _ _ 512 (by norm_num) (by norm_num) _ (fun r l => head4_at _ _ _ r l) i j) ?_
  refine View.allAt_cons_unit _ _ _ _ _ (tile_of_head _ _ _ 384 (by norm_num) (by norm_num) _ (fun r l => head3_at _ _ _ r l) i j) ?_
  refine View.allAt_cons_unit _ _ _ _ _ (tile_of_head _ _ _ 256 (by norm_num) (by norm_num) _ (fun r l => head2_at _ _ _ r l) i j) ?_
  refine View.allAt_cons_unit _ _ _ _ _ (tile_of_head _ _ _ 128 (by norm_num) (by norm_num) _ (fun r l => head1_at _ _ _ r l) i j) ?_
  refine View.allAt_cons_unit _ _ _ _ _ (tile_of_head _ _ _ 0 (by norm_num) (by norm_num) _ (fun r l => head0_at _ _ _ _ _ _ r l) i j) ?_
  exact View.allAt_nil _ _

/-- The query block at `(i, j)`, from row `i` of the block's inputs. -/
theorem outQ_at (x0 : FVec Ideal S128x16384 .bf16) (x1 : FVec Ideal S1x16384 .f32) (x2 : IVec S128x1 32) (x3 : FVec Ideal S16384x2304 .fp8e4m3)
    (x4 : FVec Ideal S1x2304 .f32) (x5 : FVec Ideal S1x128 .f32) (f : Mat 1 64)
    (hf : ∀ l : Fin 128, x5 (ix2 0 l) = f (ix2 0 ⟨l.val % 64, Nat.mod_lt _ (by norm_num)⟩)) (i : Fin 128) (j : Fin 2048) :
    outQ (F := Ideal) x0 x1 x2 x3 x4 x5 (ix2 i j) = qAt x0 x1 x2 x3 x4 f i j := by
  refine (outQ_roll x0 x1 x2 x3 x4 x5 i j).trans ((headRoll_eq x2 x5 _ _ _ (fun i => f (ix2 0 i)) _ _ hf).trans ?_)
  simp only [yB_at]
  rfl

/-- The key block. -/
theorem outK_at (x0 : FVec Ideal S128x16384 .bf16) (x1 : FVec Ideal S1x16384 .f32) (x2 : IVec S128x1 32) (x3 : FVec Ideal S16384x2304 .fp8e4m3)
    (x4 : FVec Ideal S1x2304 .f32) (x5 : FVec Ideal S1x128 .f32) (f : Mat 1 64)
    (hf : ∀ l : Fin 128, x5 (ix2 0 l) = f (ix2 0 ⟨l.val % 64, Nat.mod_lt _ (by norm_num)⟩)) (i l : Fin 128) :
    outK (F := Ideal) x0 x1 x2 x3 x4 x5 (ix2 i l) = kAt x0 x1 x2 x3 x4 f i l := by
  refine (head16_at _ _ _ i l).trans ((headRoll_eq x2 x5 _ _ _ (fun i => f (ix2 0 i)) _ _ hf).trans ?_)
  simp only [yB_at]
  rfl

/-- The value block. -/
theorem outV_at (x0 : FVec Ideal S128x16384 .bf16) (x1 : FVec Ideal S1x16384 .f32) (x3 : FVec Ideal S16384x2304 .fp8e4m3)
    (x4 : FVec Ideal S1x2304 .f32) (i l : Fin 128) :
    outV (F := Ideal) x0 x1 x3 x4 (ix2 i l) = vAt x0 x1 x3 x4 i l :=
  (head17_at _ i l).trans (yB_at x0 x1 x3 x4 i _)

end Cert.KernelIdeal.Hand

end
-- ==== Proof.KernelArrays.lean ====
module

public import proofs.«01_k».proof.Proof.KernelBlocks
public import proofs.«01_k».proof.Proof.Run
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Rows
open Idealize.ShloMosaic Idealize.ShloMosaic.TcCoe Idealize.SL.Sem
open Idealize.ShloMosaic.Pipeline (Dat)

variable (m : (ℓ : Loc nD τ sig) → Buf (Elt Ideal) ℓ)

/-- The row blocks run down the grid; the whole-array windows stay at block zero. -/
theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] ∧ t.val < 192 :=
  (by decide +kernel : ∀ t : Fin grid0.N, _)

/-- Row `i` of the block at point `t`, as a row of the array. -/
def rowOf (t : Fin cfg0.N) (i : Fin 128) : Fin 24576 := ⟨t.val * 128 + i.val, by have := (idx t).2.2.2.2.2.2.2.2.2.2.2; omega⟩

/-- The rows as the region finds them. -/
def inX (c : Dev nD) : FVec Ideal S24576x16384 .bf16 := V m c main_v0

/-- The gain as the region finds them. -/
def inG (c : Dev nD) : FVec Ideal S1x16384 .f32 := V m c main_v15

/-- The positions as the region finds them. -/
def inP (c : Dev nD) : IVec S24576x1 32 := V m c main_v1

/-- The weights as the region finds them. -/
def inW (c : Dev nD) : FVec Ideal S16384x2304 .fp8e4m3 := V m c main_arg3

/-- The column scales as the region finds them. -/
def inS (c : Dev nD) : FVec Ideal S1x2304 .f32 := V m c main_v16

/-- The rotary frequencies as the region finds them. -/
def inF (c : Dev nD) : FVec Ideal S1x128 .f32 := V m c main_v14

theorem block1 (c : Dev nD) (t : Fin cfg0.N) : iblk m c 1 t = inG m c := by
  blk_ext! [iblk, inG, idx t]

theorem block3 (c : Dev nD) (t : Fin cfg0.N) : iblk m c 3 t = inW m c := by
  blk_ext! [iblk, inW, idx t]

theorem block4 (c : Dev nD) (t : Fin cfg0.N) : iblk m c 4 t = inS m c := by
  blk_ext! [iblk, inS, idx t]

theorem block5 (c : Dev nD) (t : Fin cfg0.N) : iblk m c 5 t = inF m c := by
  blk_ext! [iblk, inF, idx t]

theorem block0 (c : Dev nD) (t : Fin cfg0.N) (i : Fin 128) (k : Fin 16384) :
    (show FVec Ideal S128x16384 .bf16 from iblk m c 0 t) (ix2 i k) = inX m c (ix2 (rowOf t i) k) := by
  blk_ext [iblk, inX, rowOf, idx t]

theorem block2 (c : Dev nD) (t : Fin cfg0.N) (i : Fin 128) (k : Fin 1) :
    (show IVec S128x1 32 from iblk m c 2 t) (ix2 i k) = inP m c (ix2 (rowOf t i) k) := by
  blk_ext [iblk, inP, rowOf, idx t]

/-- The query array after the run, entry by entry. -/
theorem final6 (c : Dev nD) (f : Mat 1 64)
    (hf : ∀ l : Fin 128, inF m c (ix2 0 l) = f (ix2 0 ⟨l.val % 64, Nat.mod_lt _ (by norm_num)⟩)) :
    (dats m 0 c).arrAt 6 (cfgs 0).N = fun y => qAt (inX m c) (inG m c) (inP m c) (inW m c) (inS m c) f (y 0) (y 1) := by
  refine (dats m 0 c).arrAt_eq_of_covers 6 _ (by decide +kernel) fun t _ y => ?_
  have he : (ix2 (rowOf t (y 0)) (y 1) : S24576x2048.Idx) = ((cfg0.win 6).blk t).view.emb y := by blk_ext [rowOf, idx t]
  refine Eq.trans ?_ (congrArg (fun y : S24576x2048.Idx => qAt (inX m c) (inG m c) (inP m c) (inW m c) (inS m c) f (y 0) (y 1)) he)
  blk_simp
  rw [after0_6, block1, block3, block4, block5]
  exact (congrArg _ (eq_ix2 (y : S128x2048.Idx))).trans ((outQ_at _ _ _ _ _ _ f hf (y 0) (y 1)).trans (qAt_congr _ _ _ f (fun k => block0 m c t (y 0) k) (block2 m c t (y 0) 0) (y 1)))

/-- The key array after the run, entry by entry. -/
theorem final7 (c : Dev nD) (f : Mat 1 64)
    (hf : ∀ l : Fin 128, inF m c (ix2 0 l) = f (ix2 0 ⟨l.val % 64, Nat.mod_lt _ (by norm_num)⟩)) :
    (dats m 0 c).arrAt 7 (cfgs 0).N = fun y => kAt (inX m c) (inG m c) (inP m c) (inW m c) (inS m c) f (y 0) (y 1) := by
  refine (dats m 0 c).arrAt_eq_of_covers 7 _ (by decide +kernel) fun t _ y => ?_
  have he : (ix2 (rowOf t (y 0)) (y 1) : S24576x128.Idx) = ((cfg0.win 7).blk t).view.emb y := by blk_ext [rowOf, idx t]
  refine Eq.trans ?_ (congrArg (fun y : S24576x128.Idx => kAt (inX m c) (inG m c) (inP m c) (inW m c) (inS m c) f (y 0) (y 1)) he)
  blk_simp
  rw [after0_7, block1, block3, block4, block5]
  exact (congrArg _ (eq_ix2 (y : S128x128.Idx))).trans ((outK_at _ _ _ _ _ _ f hf (y 0) (y 1)).trans (kAt_congr _ _ _ f (fun k => block0 m c t (y 0) k) (block2 m c t (y 0) 0) (y 1)))

/-- The value array after the run, entry by entry. -/
theorem final8 (c : Dev nD) :
    (dats m 0 c).arrAt 8 (cfgs 0).N = fun y => vAt (inX m c) (inG m c) (inW m c) (inS m c) (y 0) (y 1) := by
  refine (dats m 0 c).arrAt_eq_of_covers 8 _ (by decide +kernel) fun t _ y => ?_
  have he : (ix2 (rowOf t (y 0)) (y 1) : S24576x128.Idx) = ((cfg0.win 8).blk t).view.emb y := by blk_ext [rowOf, idx t]
  refine Eq.trans ?_ (congrArg (fun y : S24576x128.Idx => vAt (inX m c) (inG m c) (inW m c) (inS m c) (y 0) (y 1)) he)
  blk_simp
  rw [after0_8, block1, block3, block4]
  exact (congrArg _ (eq_ix2 (y : S128x128.Idx))).trans ((outV_at _ _ _ _ (y 0) (y 1)).trans (yAt_congr _ _ _ (fun k => block0 m c t (y 0) k) _))

/-- The code array after the run, entry by entry. -/
theorem final9 (c : Dev nD) :
    (dats m 0 c).arrAt 9 (cfgs 0).N = fun y => cAt (inX m c) (inG m c) (y 0) (y 1) := by
  refine (dats m 0 c).arrAt_eq_of_covers 9 _ (by decide +kernel) fun t _ y => ?_
  have he : (ix2 (rowOf t (y 0)) (y 1) : S24576x16384.Idx) = ((cfg0.win 9).blk t).view.emb y := by blk_ext [rowOf, idx t]
  refine Eq.trans ?_ (congrArg (fun y : S24576x16384.Idx => cAt (inX m c) (inG m c) (y 0) (y 1)) he)
  blk_simp
  rw [after0_9, block1]
  exact (congrArg _ (eq_ix2 (y : S128x16384.Idx))).trans ((codesBlk_at _ _ (y 0) (y 1)).trans (cAt_congr _ (fun k => block0 m c t (y 0) k) (y 1)))

/-- The scale array after the run, entry by entry. -/
theorem final10 (c : Dev nD) :
    (dats m 0 c).arrAt 10 (cfgs 0).N = fun y => sAt (inX m c) (inG m c) (y 0) := by
  refine (dats m 0 c).arrAt_eq_of_covers 10 _ (by decide +kernel) fun t _ y => ?_
  have he : (ix2 (rowOf t (y 0)) (y 1) : S24576x1.Idx) = ((cfg0.win 10).blk t).view.emb y := by blk_ext [rowOf, idx t]
  refine Eq.trans ?_ (congrArg (fun y : S24576x1.Idx => sAt (inX m c) (inG m c) (y 0)) he)
  blk_simp
  rw [after0_10, block1]
  exact (congrArg _ (eq_ix2 (y : S128x1.Idx))).trans ((scaleBlk_at _ _ (y 0) (y 1)).trans (sAt_congr _ (fun k => block0 m c t (y 0) k)))

end Cert.KernelIdeal.Hand

end
-- ==== Proof.KernelEntry.lean ====
module

public import proofs.«01_k».proof.Proof.KernelArrays

@[expose] public section

set_option maxRecDepth 16384

noncomputable section

namespace Cert.KernelIdeal.Hand
open Cert.KernelIdeal Cert.KernelIdeal.Gen Cert.Rows
open Idealize.ShloMosaic Idealize.ShloMosaic.TcCoe Idealize.SL.Sem
variable (m : (ℓ : Loc nD τ sig) → Buf (Elt Ideal) ℓ)

/-- The rows as one matrix. -/
theorem inX_eq (c : Dev nD) : inX m c = shapeCast S24576x16384 (m ((c : Thread nD τ).loc main_arg0)) shapeCasts_S3x8192x16384_S24576x16384 := by
  unfold inX
  entry_read
  rfl

/-- The gain as one row. -/
theorem inG_eq (c : Dev nD) : inG m c = shapeCast S1x16384 (m ((c : Thread nD τ).loc main_arg1)) shapeCasts_S16384_S1x16384 := by
  unfold inG
  entry_read
  rfl

/-- The positions as one column. -/
theorem inP_eq (c : Dev nD) : inP m c = shapeCast S24576x1 (m ((c : Thread nD τ).loc main_arg2)) shapeCasts_S3x8192_S24576x1 := by
  unfold inP
  entry_read
  rfl

/-- The weights. -/
theorem inW_eq (c : Dev nD) : inW m c = m ((c : Thread nD τ).loc main_arg3) := V_main_arg3 m c

/-- The column scales as one row. -/
theorem inS_eq (c : Dev nD) : inS m c = shapeCast S1x2304 (m ((c : Thread nD τ).loc main_arg4)) shapeCasts_S2304_S1x2304 := by
  unfold inS
  entry_read
  rfl

/-- The kernel's frequencies repeat with period 64 over its 128 lanes. -/
theorem inF_at (c : Dev nD) (l : Fin 128) : inF m c (ix2 0 l) = freqAt (l.val % 64) := by
  have hl := l.isLt
  unfold inF
  entry_read
  pointwise
  by_cases h : l.val < 64
  · rw [dif_pos h, show l.val % 64 = l.val from Nat.mod_eq_of_lt h]
    rfl
  · rw [dif_neg h, show l.val % 64 = l.val - 64 by omega]
    rfl

/-- What the run leaves: the five result arrays entry by entry, and the arguments as they were. -/
theorem results (ρ : Dev nD → PrngReg) (f : Dev nD → Mat 1 64)
    (hf : ∀ c, ∀ l : Fin 128, inF m c (ix2 0 l) = f c (ix2 0 ⟨l.val % 64, Nat.mod_lt _ (by norm_num)⟩)) :
    θ_run (defs (F := Ideal)) (onTc (τ := τ) (main (F := Ideal))) ⟨m, fun _ => 0, ρ⟩ (fun r => ∀ c : Dev nD,
      (r.2.mem ((c.tc : Thread nD τ).loc main_v17_0) = (fun y : S24576x2048.Idx => qAt (inX m c) (inG m c) (inP m c) (inW m c) (inS m c) (f c) (y 0) (y 1))
      ∧ r.2.mem ((c.tc : Thread nD τ).loc main_v17_1) = (fun y : S24576x128.Idx => kAt (inX m c) (inG m c) (inP m c) (inW m c) (inS m c) (f c) (y 0) (y 1))
      ∧ r.2.mem ((c.tc : Thread nD τ).loc main_v17_2) = (fun y : S24576x128.Idx => vAt (inX m c) (inG m c) (inW m c) (inS m c) (y 0) (y 1))
      ∧ r.2.mem ((c.tc : Thread nD τ).loc main_v17_3) = (fun y : S24576x16384.Idx => cAt (inX m c) (inG m c) (y 0) (y 1))
      ∧ r.2.mem ((c.tc : Thread nD τ).loc main_v17_4) = (fun y : S24576x1.Idx => sAt (inX m c) (inG m c) (y 0)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono
    (fun _ h c => ⟨⟨((h.1 c).1 6).trans (final6 m c (f c) (hf c)), ((h.1 c).1 7).trans (final7 m c (f c) (hf c)), ((h.1 c).1 8).trans (final8 m c),
      ((h.1 c).1 9).trans (final9 m c), ((h.1 c).1 10).trans (final10 m c)⟩, h.2 c⟩)
    (θ_run_and (run_main m ρ) (unchanged m ρ))

end Cert.KernelIdeal.Hand

end
-- ==== Proof.ReferenceHeads.lean ====
module

public import proofs.«01_k».proof.Proof.Rows
public import proofs.«01_k».proof.Proof.Gen.ReferenceIdeal.Skeleton

@[expose] public section

set_option maxRecDepth 16384

noncomputable section

namespace Cert.ReferenceIdeal.Hand

open Cert.ReferenceIdeal Cert.ReferenceIdeal.Gen Cert.Rows
open Idealize.ShloMosaic Idealize.ShloMosaic.TcCoe

/-- The reference's projection over its inputs. -/
def proj (x : FVec Ideal S24576x16384 .bf16) (g : FVec Ideal S1x16384 .f32) (w : FVec Ideal S16384x2304 .fp8e4m3)
    (ws : FVec Ideal S1x2304 .f32) : FVec Ideal S24576x2304 .f32 :=
  k0_pay8 (F := Ideal) (k0_pay4 (F := Ideal) x g) (k0_pay5 (F := Ideal) x g) (k0_pay6 (F := Ideal) x g) 0#32 w ws

/-- Two lanes of a row combined with a difference, the lanes named twice. -/
theorem pair_sub (y : FVec Ideal S24576x2304 .f32) (r : Fin 24576) {a b a' b' : Fin 2304} (ha : a = a') (hb : b = b') (c s : EReal) :
    y (ix2 r a) * c - y (ix2 r b) * s = y (ix2 r a') * c - y (ix2 r b') * s := by rw [ha, hb]

/-- Two lanes of a row combined with a sum, the lanes named twice. -/
theorem pair_add (y : FVec Ideal S24576x2304 .f32) (r : Fin 24576) {a b a' b' : Fin 2304} (ha : a = a') (hb : b = b') (c s : EReal) :
    y (ix2 r a) * c + y (ix2 r b) * s = y (ix2 r a') * c + y (ix2 r b') * s := by rw [ha, hb]

/-- The reference's key slice rotated. -/
theorem key_at (x : FVec Ideal S24576x16384 .bf16) (g : FVec Ideal S1x16384 .f32) (w : FVec Ideal S16384x2304 .fp8e4m3)
    (ws : FVec Ideal S1x2304 .f32) (p : IVec S24576x1 32) (f : FVec Ideal S1x64 .f32) (r : Fin 24576) (l : Fin 128) :
    k0_pay2 (F := Ideal) (k0_pay9 (F := Ideal) (k0_pay4 (F := Ideal) x g) (k0_pay5 (F := Ideal) x g) (k0_pay6 (F := Ideal) x g) 0#32 w ws)
        (k0_pay12 (F := Ideal) p f) (k0_pay13 (F := Ideal) p f) (ix2 r l)
      = rope (fun j => angle (p (ix2 r 0)) (f (ix2 0 j))) (fun i => proj x g w ws (ix2 r ⟨2048 + i.val, by omega⟩)) l := by
  pointwise [k0_pay2, k0_pay9, k0_pay12, k0_pay13, k0_pay11]
  unfold rope
  by_cases h : l.val < 64
  · simp only [dif_pos h]
    exact pair_sub (proj x g w ws) r rfl (Fin.ext (by simp only []; omega)) _ _
  · simp only [dif_neg h]
    exact pair_add (proj x g w ws) r (Fin.ext (by simp only []; omega)) rfl _ _

/-- The reference's value slice. -/
theorem value_at (x : FVec Ideal S24576x16384 .bf16) (g : FVec Ideal S1x16384 .f32) (w : FVec Ideal S16384x2304 .fp8e4m3)
    (ws : FVec Ideal S1x2304 .f32) (r : Fin 24576) (l : Fin 128) :
    k0_pay3 (F := Ideal) (k0_pay10 (F := Ideal) (k0_pay4 (F := Ideal) x g) (k0_pay5 (F := Ideal) x g) (k0_pay6 (F := Ideal) x g) 0#32 w ws) (ix2 r l)
      = proj x g w ws (ix2 r ⟨2176 + l.val, by omega⟩) := by
  pointwise [k0_pay3, k0_pay10]
  rfl

/-- The reference's query slice rotated head by head. -/
theorem query_at (x : FVec Ideal S24576x16384 .bf16) (g : FVec Ideal S1x16384 .f32) (w : FVec Ideal S16384x2304 .fp8e4m3)
    (ws : FVec Ideal S1x2304 .f32) (p : IVec S24576x1 32) (f : FVec Ideal S1x64 .f32) (r : Fin 24576) (j : Fin 2048) :
    k0_pay1 (F := Ideal) (k0_pay14 (F := Ideal) (k0_pay4 (F := Ideal) x g) (k0_pay5 (F := Ideal) x g) (k0_pay6 (F := Ideal) x g) 0#32 w ws p f) (ix2 r j)
      = rope (fun j => angle (p (ix2 r 0)) (f (ix2 0 j)))
          (fun i => proj x g w ws (ix2 r ⟨128 * (j.val / 128) + i.val, by omega⟩)) ⟨j.val % 128, Nat.mod_lt _ (by norm_num)⟩ := by
  pointwise [k0_pay1, k0_pay14, k0_pay12, k0_pay13, k0_pay11]
  have hj := j.isLt
  unfold rope
  by_cases h : j.val % 128 < 64
  · simp only [dif_pos h]
    exact pair_sub (proj x g w ws) r (Fin.ext (by simp only []; omega)) (Fin.ext (by simp only []; omega)) _ _
  · simp only [dif_neg h]
    exact pair_add (proj x g w ws) r (Fin.ext (by simp only []; omega)) (Fin.ext (by simp only []; omega)) _ _

end Cert.ReferenceIdeal.Hand

end
-- ==== Proof.ReferenceRows.lean ====
module

public import proofs.«01_k».proof.Proof.Rows
public import proofs.«01_k».proof.Proof.Gen.ReferenceIdeal.Skeleton

@[expose] public section

set_option maxRecDepth 16384

noncomputable section

namespace Cert.ReferenceIdeal.Hand

open Cert.ReferenceIdeal Cert.ReferenceIdeal.Gen Cert.Rows
open Idealize.ShloMosaic Idealize.ShloMosaic.TcCoe

/-- The normalised matrix at `(r, j)` is the normalised row `r` at `j`. -/
theorem h_at (x : FVec Ideal S24576x16384 .bf16) (g : FVec Ideal S1x16384 .f32) (r : Fin 24576) (j : Fin 16384) :
    k0_pay4 (F := Ideal) x g (ix2 r j) = rowH (fun k => x (ix2 r k)) (fun k => g (ix2 0 k)) j := by
  pointwise [k0_pay4]
  rfl

/-- The column of row maxima the reference's exponent starts from. -/
def maxV (x : FVec Ideal S24576x16384 .bf16) (g : FVec Ideal S1x16384 .f32) : FVec Ideal S24576x1 .f32 :=
  shapeCast S24576x1 (multiReduction .maximumf [1] S24576 (absf (k0_pay4 (F := Ideal) x g)) 0xFF800000#32 reduces_S24576x16384_S24576 (.inl rfl) rfl) shapeCasts_S24576_S24576x1

/-- The exponents of a column of row maxima. -/
def expV (v19 : FVec Ideal S24576x1 .f32) : IVec S24576x1 32 :=
  select (cmpf .oeq v19 (broadcast S24576x1 (Scalar.ofBits .f32 0x00000000#32))) (broadcast S24576x1 0#32)
    (select (ori (cmpf .oeq (mulf v19 (broadcast S24576x1 (Scalar.ofBits .f32 0x3B124925#32))) (broadcast S24576x1 (Scalar.ofBits .f32 0x00000000#32)))
        (cmpf .oeq (mulf v19 (broadcast S24576x1 (Scalar.ofBits .f32 0x3B124925#32))) (broadcast S24576x1 (Scalar.ofBits .f32 0x7F800000#32))))
      (broadcast S24576x1 0#32)
      (addi (fptosi 32 (floor (divf (log (mulf v19 (broadcast S24576x1 (Scalar.ofBits .f32 0x3B124925#32))))
        (log (broadcast S24576x1 (Scalar.ofBits .f32 0x40000000#32)))))) (broadcast S24576x1 1#32)))

theorem pay5_eq (x : FVec Ideal S24576x16384 .bf16) (g : FVec Ideal S1x16384 .f32) :
    k0_pay5 (F := Ideal) x g = expV (maxV x g) := rfl

/-- The row maxima. -/
theorem max_at (x : FVec Ideal S24576x16384 .bf16) (g : FVec Ideal S1x16384 .f32) (r : Fin 24576) (u : Fin 1) :
    maxV x g (ix2 r u) = rowMax (fun k => x (ix2 r k)) (fun k => g (ix2 0 k)) := by
  pointwise [maxV]
  unfold rowMax
  exact congrArg (fun f => Finset.univ.fold max (Ideal.ofBits FTy.f32 0xFF800000#32) f)
    (funext fun k => congrArg (FloatOps.absf (F := Ideal) (φ := FTy.f32)) (h_at x g r k))

/-- The exponents, read at a row. -/
theorem expV_at (v : FVec Ideal S24576x1 .f32) (r : Fin 24576) (u : Fin 1) :
    expV v (ix2 r u) = (if v (ix2 r u) = 0 then 0#32
      else Scalar.select
        (IntOp.ori (BitVec.ofBool (decide (v (ix2 r u) * Ideal.ofBits FTy.f32 0x3B124925#32 = 0)))
          (BitVec.ofBool (decide (v (ix2 r u) * Ideal.ofBits FTy.f32 0x3B124925#32 = Ideal.ofBits FTy.f32 0x7F800000#32))))
        0#32
        (IntOp.addi (FloatOps.fptosi (F := Ideal) (φ := FTy.f32) 32 (Ideal.liftRound Int.floor
          (Ideal.div (Ideal.log (v (ix2 r u) * Ideal.ofBits FTy.f32 0x3B124925#32)) (Ideal.log (Ideal.ofBits FTy.f32 0x40000000#32))))) 1#32)) := by
  pointwise [expV]

/-- The reference's exponent is the row's. -/
theorem exp_at (x : FVec Ideal S24576x16384 .bf16) (g : FVec Ideal S1x16384 .f32) (r : Fin 24576) (u : Fin 1) :
    k0_pay5 (F := Ideal) x g (ix2 r u) = rowExp (fun k => x (ix2 r k)) (fun k => g (ix2 0 k)) := by
  rw [pay5_eq, expV_at, max_at]
  rfl

/-- The reference's scales are the rows' scales. -/
theorem scale_at (x : FVec Ideal S24576x16384 .bf16) (g : FVec Ideal S1x16384 .f32) (r : Fin 24576) (u : Fin 1) :
    k0_pay6 (F := Ideal) x g (ix2 r u) = rowScale (fun k => x (ix2 r k)) (fun k => g (ix2 0 k)) := by
  pointwise [k0_pay6, exp_at]
  rfl

/-- The reference's codes are the rows' codes. -/
theorem code_at (x : FVec Ideal S24576x16384 .bf16) (g : FVec Ideal S1x16384 .f32) (r : Fin 24576) (j : Fin 16384) :
    k0_pay7 (F := Ideal) (k0_pay4 (F := Ideal) x g) (k0_pay5 (F := Ideal) x g) 0#32 (ix2 r j)
      = rowCode (fun k => x (ix2 r k)) (fun k => g (ix2 0 k)) j := by
  pointwise [k0_pay7, exp_at, h_at]
  rfl

/-- The reference's projection is the rows' projection. -/
theorem proj_at (x : FVec Ideal S24576x16384 .bf16) (g : FVec Ideal S1x16384 .f32) (w : FVec Ideal S16384x2304 .fp8e4m3)
    (ws : FVec Ideal S1x2304 .f32) (r : Fin 24576) (j : Fin 2304) :
    k0_pay8 (F := Ideal) (k0_pay4 (F := Ideal) x g) (k0_pay5 (F := Ideal) x g) (k0_pay6 (F := Ideal) x g) 0#32 w ws (ix2 r j)
      = rowY (fun k => x (ix2 r k)) (fun k => g (ix2 0 k)) (fun k => w (ix2 k j)) (ws (ix2 0 j)) := by
  pointwise [k0_pay8, code_at, scale_at]
  rfl

end Cert.ReferenceIdeal.Hand

end
-- ==== Proof.ReferenceArrays.lean ====
module

public import proofs.«01_k».proof.Proof.ReferenceHeads
public import proofs.«01_k».proof.Proof.ReferenceRows
public import proofs.«01_k».proof.Proof.Arrays
public import proofs.«01_k».proof.Proof.Gen.ReferenceIdeal.Frame
public import Idealize.ShloMosaic.Lib.Pipeline.ValueKit
public import Idealize.ShloMosaic.Lib.Claim

@[expose] public section

set_option maxRecDepth 16384

noncomputable section

namespace Cert.ReferenceIdeal.Hand

open Cert.ReferenceIdeal Cert.ReferenceIdeal.Gen Cert.Rows
open Idealize.ShloMosaic Idealize.ShloMosaic.TcCoe Idealize.SL.Sem
open Idealize.ShloMosaic.Pipeline (Dat)

variable (m : (ℓ : Loc nD τ sig) → Buf (Elt Ideal) ℓ)

/-- Every window's block index is zero. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

/-- The rows as the region finds them. -/
def inX (c : Dev nD) : FVec Ideal S24576x16384 .bf16 := V m c main_v11

/-- The gain as the region finds them. -/
def inG (c : Dev nD) : FVec Ideal S1x16384 .f32 := V m c main_v12

/-- The positions as the region finds them. -/
def inP (c : Dev nD) : IVec S24576x1 32 := V m c main_v13

/-- The weights as the region finds them. -/
def inW (c : Dev nD) : FVec Ideal S16384x2304 .fp8e4m3 := V m c main_arg3

/-- The column scales as the region finds them. -/
def inS (c : Dev nD) : FVec Ideal S1x2304 .f32 := V m c main_v14

/-- The rotary frequencies as the region finds them. -/
def inF (c : Dev nD) : FVec Ideal S1x64 .f32 := V m c main_v15

theorem block0 (c : Dev nD) (t : Fin cfg0.N) : iblk m c 0 t = inX m c := by
  blk_ext! [iblk, inX, idx t]

theorem block1 (c : Dev nD) (t : Fin cfg0.N) : iblk m c 1 t = inG m c := by
  blk_ext! [iblk, inG, idx t]

theorem block2 (c : Dev nD) (t : Fin cfg0.N) : iblk m c 2 t = inP m c := by
  blk_ext! [iblk, inP, idx t]

theorem block3 (c : Dev nD) (t : Fin cfg0.N) : iblk m c 3 t = inW m c := by
  blk_ext! [iblk, inW, idx t]

theorem block4 (c : Dev nD) (t : Fin cfg0.N) : iblk m c 4 t = inS m c := by
  blk_ext! [iblk, inS, idx t]

theorem block5 (c : Dev nD) (t : Fin cfg0.N) : iblk m c 5 t = inF m c := by
  blk_ext! [iblk, inF, idx t]

/-- The normalised matrix the stored values are written over. -/
theorem own15 (x0 : FVec Ideal S24576x16384 .bf16) (x1 : FVec Ideal S1x16384 .f32) (x2 : IVec S24576x1 32) (x3 : FVec Ideal S16384x2304 .fp8e4m3)
    (x4 : FVec Ideal S1x2304 .f32) (x5 : FVec Ideal S1x64 .f32) : Gen.k0_pay15 (F := Ideal) x0 x1 x2 x3 x4 x5 = k0_pay4 (F := Ideal) x0 x1 := by
  have h0 : ∀ X : Vec Ideal S24576x16384 .bf16, View.ld X r0_0 = X :=
    fun X => View.ld_unit_lit inb_S24576x16384_S24576x16384_0_0 X (by decide)
  have h1 : ∀ X : Vec Ideal S1x16384 .f32, View.ld X r0_1 = X :=
    fun X => View.ld_unit_lit inb_S1x16384_S1x16384_0_0 X (by decide)
  exact congrArg₂ (k0_pay4 (F := Ideal)) (h0 x0) (h1 x1)

/-- The exponents they are written over. -/
theorem own16 (x0 : FVec Ideal S24576x16384 .bf16) (x1 : FVec Ideal S1x16384 .f32) (x2 : IVec S24576x1 32) (x3 : FVec Ideal S16384x2304 .fp8e4m3)
    (x4 : FVec Ideal S1x2304 .f32) (x5 : FVec Ideal S1x64 .f32) : Gen.k0_pay16 (F := Ideal) x0 x1 x2 x3 x4 x5 = k0_pay5 (F := Ideal) x0 x1 := by
  have h0 : ∀ X : Vec Ideal S24576x16384 .bf16, View.ld X r0_0 = X :=
    fun X => View.ld_unit_lit inb_S24576x16384_S24576x16384_0_0 X (by decide)
  have h1 : ∀ X : Vec Ideal S1x16384 .f32, View.ld X r0_1 = X :=
    fun X => View.ld_unit_lit inb_S1x16384_S1x16384_0_0 X (by decide)
  exact congrArg₂ (k0_pay5 (F := Ideal)) (h0 x0) (h1 x1)

/-- The scales they are written over. -/
theorem own17 (x0 : FVec Ideal S24576x16384 .bf16) (x1 : FVec Ideal S1x16384 .f32) (x2 : IVec S24576x1 32) (x3 : FVec Ideal S16384x2304 .fp8e4m3)
    (x4 : FVec Ideal S1x2304 .f32) (x5 : FVec Ideal S1x64 .f32) : Gen.k0_pay17 (F := Ideal) x0 x1 x2 x3 x4 x5 = k0_pay6 (F := Ideal) x0 x1 := by
  have h0 : ∀ X : Vec Ideal S24576x16384 .bf16, View.ld X r0_0 = X :=
    fun X => View.ld_unit_lit inb_S24576x16384_S24576x16384_0_0 X (by decide)
  have h1 : ∀ X : Vec Ideal S1x16384 .f32, View.ld X r0_1 = X :=
    fun X => View.ld_unit_lit inb_S1x16384_S1x16384_0_0 X (by decide)
  exact congrArg₂ (k0_pay6 (F := Ideal)) (h0 x0) (h1 x1)

/-- The stored query values, entry by entry. -/
theorem query_all (x : FVec Ideal S24576x16384 .bf16) (g : FVec Ideal S1x16384 .f32) (p : IVec S24576x1 32) (w : FVec Ideal S16384x2304 .fp8e4m3) (ws : FVec Ideal S1x2304 .f32) (f : FVec Ideal S1x64 .f32) (y : S24576x2048.Idx) :
    k0_pay1 (F := Ideal) (k0_pay14 (F := Ideal) (Gen.k0_pay15 (F := Ideal) x g p w ws f) (Gen.k0_pay16 (F := Ideal) x g p w ws f) (Gen.k0_pay17 (F := Ideal) x g p w ws f) 0#32 w ws p f) y = qAt x g p w ws f (y 0) (y 1) := by
  rw [own15, own16, own17]
  refine (congrArg _ (eq_ix2 y)).trans ?_
  refine (query_at x g w ws p f (y 0) (y 1)).trans ?_
  exact congrArg (fun F => rope (fun i => angle (p (ix2 (y 0) 0)) (f (ix2 0 i))) F _) (funext fun i => proj_at x g w ws (y 0) _)

/-- The stored key values, entry by entry. -/
theorem key_all (x : FVec Ideal S24576x16384 .bf16) (g : FVec Ideal S1x16384 .f32) (p : IVec S24576x1 32) (w : FVec Ideal S16384x2304 .fp8e4m3) (ws : FVec Ideal S1x2304 .f32) (f : FVec Ideal S1x64 .f32) (y : S24576x128.Idx) :
    k0_pay2 (F := Ideal) (k0_pay9 (F := Ideal) (Gen.k0_pay15 (F := Ideal) x g p w ws f) (Gen.k0_pay16 (F := Ideal) x g p w ws f) (Gen.k0_pay17 (F := Ideal) x g p w ws f) 0#32 w ws) (k0_pay12 (F := Ideal) p f) (k0_pay13 (F := Ideal) p f) y = kAt x g p w ws f (y 0) (y 1) := by
  rw [own15, own16, own17]
  refine (congrArg _ (eq_ix2 y)).trans ?_
  refine (key_at x g w ws p f (y 0) (y 1)).trans ?_
  exact congrArg (fun F => rope (fun i => angle (p (ix2 (y 0) 0)) (f (ix2 0 i))) F _) (funext fun i => proj_at x g w ws (y 0) _)

/-- The stored value values, entry by entry. -/
theorem value_all (x : FVec Ideal S24576x16384 .bf16) (g : FVec Ideal S1x16384 .f32) (p : IVec S24576x1 32) (w : FVec Ideal S16384x2304 .fp8e4m3) (ws : FVec Ideal S1x2304 .f32) (f : FVec Ideal S1x64 .f32) (y : S24576x128.Idx) :
    k0_pay3 (F := Ideal) (k0_pay10 (F := Ideal) (Gen.k0_pay15 (F := Ideal) x g p w ws f) (Gen.k0_pay16 (F := Ideal) x g p w ws f) (Gen.k0_pay17 (F := Ideal) x g p w ws f) 0#32 w ws) y = vAt x g w ws (y 0) (y 1) := by
  rw [own15, own16, own17]
  refine (congrArg _ (eq_ix2 y)).trans ?_
  refine (value_at x g w ws (y 0) (y 1)).trans ?_
  exact proj_at x g w ws (y 0) _

/-- The stored code values, entry by entry. -/
theorem code_all (x : FVec Ideal S24576x16384 .bf16) (g : FVec Ideal S1x16384 .f32) (p : IVec S24576x1 32) (w : FVec Ideal S16384x2304 .fp8e4m3) (ws : FVec Ideal S1x2304 .f32) (f : FVec Ideal S1x64 .f32) (y : S24576x16384.Idx) :
    k0_pay7 (F := Ideal) (Gen.k0_pay15 (F := Ideal) x g p w ws f) (Gen.k0_pay16 (F := Ideal) x g p w ws f) 0#32 y = cAt x g (y 0) (y 1) := by
  rw [own15, own16]
  refine (congrArg _ (eq_ix2 y)).trans ?_
  refine code_at x g (y 0) (y 1)

/-- The stored scale values, entry by entry. -/
theorem scale_all (x : FVec Ideal S24576x16384 .bf16) (g : FVec Ideal S1x16384 .f32) (p : IVec S24576x1 32) (w : FVec Ideal S16384x2304 .fp8e4m3) (ws : FVec Ideal S1x2304 .f32) (f : FVec Ideal S1x64 .f32) (y : S24576x1.Idx) :
    (Gen.k0_pay17 (F := Ideal) x g p w ws f) y = sAt x g (y 0) := by
  rw [own17]
  refine (congrArg _ (eq_ix2 y)).trans ?_
  refine scale_at x g (y 0) (y 1)

/-- The query array after the run, entry by entry. -/
theorem final6 (c : Dev nD) : (dats m 0 c).arrAt 6 (cfgs 0).N = fun y => qAt (inX m c) (inG m c) (inP m c) (inW m c) (inS m c) (inF m c) (y 0) (y 1) := by
  refine (dats m 0 c).arrAt_eq_of_covers 6 _ (by decide +kernel) fun t _ y => ?_
  have he : (y : S24576x2048.Idx) = ((cfg0.win 6).blk t).view.emb y := by blk_ext [idx t]
  refine Eq.trans ?_ (congrArg (fun y : S24576x2048.Idx => qAt (inX m c) (inG m c) (inP m c) (inW m c) (inS m c) (inF m c) (y 0) (y 1)) he)
  blk_simp
  rw [after0_6, block0, block1, block2, block3, block4, block5]
  frame_out
  exact query_all (inX m c) (inG m c) (inP m c) (inW m c) (inS m c) (inF m c) y

/-- The key array after the run, entry by entry. -/
theorem final7 (c : Dev nD) : (dats m 0 c).arrAt 7 (cfgs 0).N = fun y => kAt (inX m c) (inG m c) (inP m c) (inW m c) (inS m c) (inF m c) (y 0) (y 1) := by
  refine (dats m 0 c).arrAt_eq_of_covers 7 _ (by decide +kernel) fun t _ y => ?_
  have he : (y : S24576x128.Idx) = ((cfg0.win 7).blk t).view.emb y := by blk_ext [idx t]
  refine Eq.trans ?_ (congrArg (fun y : S24576x128.Idx => kAt (inX m c) (inG m c) (inP m c) (inW m c) (inS m c) (inF m c) (y 0) (y 1)) he)
  blk_simp
  rw [after0_7, block0, block1, block2, block3, block4, block5]
  frame_out
  exact key_all (inX m c) (inG m c) (inP m c) (inW m c) (inS m c) (inF m c) y

/-- The value array after the run, entry by entry. -/
theorem final8 (c : Dev nD) : (dats m 0 c).arrAt 8 (cfgs 0).N = fun y => vAt (inX m c) (inG m c) (inW m c) (inS m c) (y 0) (y 1) := by
  refine (dats m 0 c).arrAt_eq_of_covers 8 _ (by decide +kernel) fun t _ y => ?_
  have he : (y : S24576x128.Idx) = ((cfg0.win 8).blk t).view.emb y := by blk_ext [idx t]
  refine Eq.trans ?_ (congrArg (fun y : S24576x128.Idx => vAt (inX m c) (inG m c) (inW m c) (inS m c) (y 0) (y 1)) he)
  blk_simp
  rw [after0_8, block0, block1, block2, block3, block4, block5]
  frame_out
  exact value_all (inX m c) (inG m c) (inP m c) (inW m c) (inS m c) (inF m c) y

/-- The code array after the run, entry by entry. -/
theorem final9 (c : Dev nD) : (dats m 0 c).arrAt 9 (cfgs 0).N = fun y => cAt (inX m c) (inG m c) (y 0) (y 1) := by
  refine (dats m 0 c).arrAt_eq_of_covers 9 _ (by decide +kernel) fun t _ y => ?_
  have he : (y : S24576x16384.Idx) = ((cfg0.win 9).blk t).view.emb y := by blk_ext [idx t]
  refine Eq.trans ?_ (congrArg (fun y : S24576x16384.Idx => cAt (inX m c) (inG m c) (y 0) (y 1)) he)
  blk_simp
  rw [after0_9, block0, block1, block2, block3, block4, block5]
  frame_out
  exact code_all (inX m c) (inG m c) (inP m c) (inW m c) (inS m c) (inF m c) y

/-- The scale array after the run, entry by entry. -/
theorem final10 (c : Dev nD) : (dats m 0 c).arrAt 10 (cfgs 0).N = fun y => sAt (inX m c) (inG m c) (y 0) := by
  refine (dats m 0 c).arrAt_eq_of_covers 10 _ (by decide +kernel) fun t _ y => ?_
  have he : (y : S24576x1.Idx) = ((cfg0.win 10).blk t).view.emb y := by blk_ext [idx t]
  refine Eq.trans ?_ (congrArg (fun y : S24576x1.Idx => sAt (inX m c) (inG m c) (y 0)) he)
  blk_simp
  rw [after0_10, block0, block1, block2, block3, block4, block5]
  frame_out
  exact scale_all (inX m c) (inG m c) (inP m c) (inW m c) (inS m c) (inF m c) y

end Cert.ReferenceIdeal.Hand

end
-- ==== Proof.ReferenceEntry.lean ====
module

public import proofs.«01_k».proof.Proof.ReferenceArrays

@[expose] public section

set_option maxRecDepth 16384

noncomputable section

namespace Cert.ReferenceIdeal.Hand
open Cert.ReferenceIdeal Cert.ReferenceIdeal.Gen Cert.Rows
open Idealize.ShloMosaic Idealize.ShloMosaic.TcCoe Idealize.SL.Sem
variable (m : (ℓ : Loc nD τ sig) → Buf (Elt Ideal) ℓ)

/-- The rows as one matrix. -/
theorem inX_eq (c : Dev nD) : inX m c = shapeCast S24576x16384 (m ((c : Thread nD τ).loc main_arg0)) shapeCasts_S3x8192x16384_S24576x16384 := by
  unfold inX
  entry_read
  rfl

/-- The gain as one row. -/
theorem inG_eq (c : Dev nD) : inG m c = shapeCast S1x16384 (m ((c : Thread nD τ).loc main_arg1)) shapeCasts_S16384_S1x16384 := by
  unfold inG
  entry_read
  rfl

/-- The positions as one column. -/
theorem inP_eq (c : Dev nD) : inP m c = shapeCast S24576x1 (m ((c : Thread nD τ).loc main_arg2)) shapeCasts_S3x8192_S24576x1 := by
  unfold inP
  entry_read
  rfl

/-- The weights. -/
theorem inW_eq (c : Dev nD) : inW m c = m ((c : Thread nD τ).loc main_arg3) := V_main_arg3 m c

/-- The column scales as one row. -/
theorem inS_eq (c : Dev nD) : inS m c = shapeCast S1x2304 (m ((c : Thread nD τ).loc main_arg4)) shapeCasts_S2304_S1x2304 := by
  unfold inS
  entry_read
  rfl

/-- The reference's frequencies. -/
theorem inF_at (c : Dev nD) (l : Fin 64) : inF m c (ix2 0 l) = freqAt l.val := by
  unfold inF
  entry_read
  pointwise
  rfl

/-- What the run leaves: the five result arrays entry by entry, and the arguments as they were. -/
theorem results (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v16_0) = (fun y : S24576x2048.Idx => qAt (inX m c) (inG m c) (inP m c) (inW m c) (inS m c) (inF m c) (y 0) (y 1))
      ∧ r.2.mem ((c.tc : Thread nD τ).loc main_v16_1) = (fun y : S24576x128.Idx => kAt (inX m c) (inG m c) (inP m c) (inW m c) (inS m c) (inF m c) (y 0) (y 1))
      ∧ r.2.mem ((c.tc : Thread nD τ).loc main_v16_2) = (fun y : S24576x128.Idx => vAt (inX m c) (inG m c) (inW m c) (inS m c) (y 0) (y 1))
      ∧ r.2.mem ((c.tc : Thread nD τ).loc main_v16_3) = (fun y : S24576x16384.Idx => cAt (inX m c) (inG m c) (y 0) (y 1))
      ∧ r.2.mem ((c.tc : Thread nD τ).loc main_v16_4) = (fun y : S24576x1.Idx => sAt (inX m c) (inG m c) (y 0)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))) :=
  (θ_run defs _ _).mono
    (fun _ h c => ⟨⟨((h.1 c).1 6).trans (final6 m c), ((h.1 c).1 7).trans (final7 m c), ((h.1 c).1 8).trans (final8 m c),
      ((h.1 c).1 9).trans (final9 m c), ((h.1 c).1 10).trans (final10 m c)⟩, h.2 c⟩)
    (θ_run_and (run_main m ρ) (unchanged m ρ))

end Cert.ReferenceIdeal.Hand

end
-- ==== Proof.Algebraic.lean ====
module

public import proofs.«01_k».proof.Defs
public import proofs.«01_k».proof.Proof.KernelEntry
public import proofs.«01_k».proof.Proof.ReferenceEntry

@[expose] public section

set_option maxRecDepth 16384

noncomputable section

/-!
The value claim: from equal arguments the kernel and the reference leave the same five arrays.
-/

namespace Cert.Algebraic

open Cert.Rows
open Idealize.ShloMosaic Idealize.ShloMosaic.TcCoe Idealize.SL.Sem

/-- Equal inputs give equal entries: queries, keys, values, codes and scales. -/
theorem qAt_of {x x' : Mat 24576 16384} {g g' : Mat 1 16384} {p p' : (⟨2, ![24576, 1]⟩ : Shape).Idx → BitVec 32} {w w' : Mat 16384 2304} {s s' : Mat 1 2304}
    (ex : x = x') (eg : g = g') (ep : p = p') (ew : w = w') (es : s = s') (f : Mat 1 64) (r : Fin 24576) (j : Fin 2048) :
    qAt x g p w s f r j = qAt x' g' p' w' s' f r j := by
  rw [ex, eg, ep, ew, es]

@[inherit_doc qAt_of]
theorem kAt_of {x x' : Mat 24576 16384} {g g' : Mat 1 16384} {p p' : (⟨2, ![24576, 1]⟩ : Shape).Idx → BitVec 32} {w w' : Mat 16384 2304} {s s' : Mat 1 2304}
    (ex : x = x') (eg : g = g') (ep : p = p') (ew : w = w') (es : s = s') (f : Mat 1 64) (r : Fin 24576) (j : Fin 128) :
    kAt x g p w s f r j = kAt x' g' p' w' s' f r j := by
  rw [ex, eg, ep, ew, es]

@[inherit_doc qAt_of]
theorem vAt_of {x x' : Mat 24576 16384} {g g' : Mat 1 16384} {w w' : Mat 16384 2304} {s s' : Mat 1 2304}
    (ex : x = x') (eg : g = g') (ew : w = w') (es : s = s') (r : Fin 24576) (j : Fin 128) :
    vAt x g w s r j = vAt x' g' w' s' r j := by
  rw [ex, eg, ew, es]

@[inherit_doc qAt_of]
theorem cAt_of {x x' : Mat 24576 16384} {g g' : Mat 1 16384} (ex : x = x') (eg : g = g') (r : Fin 24576) (j : Fin 16384) :
    cAt x g r j = cAt x' g' r j := by
  rw [ex, eg]

@[inherit_doc qAt_of]
theorem sAt_of {x x' : Mat 24576 16384} {g g' : Mat 1 16384} (ex : x = x') (eg : g = g') (r : Fin 24576) :
    sAt x g r = sAt x' g' r := by
  rw [ex, eg]

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs' rows agree when their arguments do. -/
theorem x_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Hand.inX m' c : Mat 24576 16384) = Cert.KernelIdeal.Hand.inX m c := by
  rw [Cert.ReferenceIdeal.Hand.inX_eq, Cert.KernelIdeal.Hand.inX_eq, h]

/-- Their gains. -/
theorem g_eq (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Hand.inG m' c : Mat 1 16384) = Cert.KernelIdeal.Hand.inG m c := by
  rw [Cert.ReferenceIdeal.Hand.inG_eq, Cert.KernelIdeal.Hand.inG_eq, h]

/-- Their positions. -/
theorem p_eq (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Hand.inP m' c : (⟨2, ![24576, 1]⟩ : Shape).Idx → BitVec 32) = Cert.KernelIdeal.Hand.inP m c := by
  rw [Cert.ReferenceIdeal.Hand.inP_eq, Cert.KernelIdeal.Hand.inP_eq, h]

/-- Their weights. -/
theorem w_eq (c : Dev Cert.KernelIdeal.nD)
    (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Hand.inW m' c : Mat 16384 2304) = Cert.KernelIdeal.Hand.inW m c := by
  rw [Cert.ReferenceIdeal.Hand.inW_eq, Cert.KernelIdeal.Hand.inW_eq, h]

/-- Their column scales. -/
theorem s_eq (c : Dev Cert.KernelIdeal.nD)
    (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Hand.inS m' c : Mat 1 2304) = Cert.KernelIdeal.Hand.inS m c := by
  rw [Cert.ReferenceIdeal.Hand.inS_eq, Cert.KernelIdeal.Hand.inS_eq, h]

/-- The kernel's frequency of a lane is the reference's frequency of the lane's pair. -/
theorem f_eq (c : Dev Cert.KernelIdeal.nD) (l : Fin 128) :
    Cert.KernelIdeal.Hand.inF m c (ix2 0 l) = (Cert.ReferenceIdeal.Hand.inF m' c : Mat 1 64) (ix2 0 ⟨l.val % 64, Nat.mod_lt _ (by norm_num)⟩) :=
  (Cert.KernelIdeal.Hand.inF_at m c l).trans (Cert.ReferenceIdeal.Hand.inF_at m' c ⟨l.val % 64, Nat.mod_lt _ (by norm_num)⟩).symm

/-- The kernel and the reference leave the same query, key, value, code and scale arrays. -/
theorem algebraic [hKernelIdeal : Cert.KernelIdeal.Facts] [hReferenceIdeal : Cert.ReferenceIdeal.Facts] :
    Cert.algebraic_KernelIdeal_ReferenceIdeal := by
  intro m g m' g' _ hagree
  refine ⟨fun c y => qAt (Cert.KernelIdeal.Hand.inX m c) (Cert.KernelIdeal.Hand.inG m c) (Cert.KernelIdeal.Hand.inP m c) (Cert.KernelIdeal.Hand.inW m c) (Cert.KernelIdeal.Hand.inS m c) (Cert.ReferenceIdeal.Hand.inF m' c) (y 0) (y 1),
    fun c y => kAt (Cert.KernelIdeal.Hand.inX m c) (Cert.KernelIdeal.Hand.inG m c) (Cert.KernelIdeal.Hand.inP m c) (Cert.KernelIdeal.Hand.inW m c) (Cert.KernelIdeal.Hand.inS m c) (Cert.ReferenceIdeal.Hand.inF m' c) (y 0) (y 1),
    fun c y => vAt (Cert.KernelIdeal.Hand.inX m c) (Cert.KernelIdeal.Hand.inG m c) (Cert.KernelIdeal.Hand.inW m c) (Cert.KernelIdeal.Hand.inS m c) (y 0) (y 1),
    fun c y => cAt (Cert.KernelIdeal.Hand.inX m c) (Cert.KernelIdeal.Hand.inG m c) (y 0) (y 1),
    fun c y => sAt (Cert.KernelIdeal.Hand.inX m c) (Cert.KernelIdeal.Hand.inG m c) (y 0), ?_, ?_⟩
  · refine (θ_run _ _ _).mono (fun r h c => ?_) (Cert.KernelIdeal.Hand.results m g (fun c => Cert.ReferenceIdeal.Hand.inF m' c) (f_eq m m'))
    obtain ⟨⟨h0, h1, h2, h3, h4⟩, h5⟩ := h c
    exact ⟨h0, h1, h2, h3, h4, h5⟩
  · refine (θ_run _ _ _).mono (fun r h c => ?_) (Cert.ReferenceIdeal.Hand.results m' g')
    obtain ⟨⟨h0, h1, h2, h3, h4⟩, h5⟩ := h c
    obtain ⟨a0, a1, a2, a3, a4⟩ := hagree c
    have ex := x_eq m m' c a0
    have eg := g_eq m m' c a1
    have ep := p_eq m m' c a2
    have ew := w_eq m m' c a3
    have es := s_eq m m' c a4
    refine ⟨h0.trans (funext fun y => ?_), h1.trans (funext fun y => ?_), h2.trans (funext fun y => ?_), h3.trans (funext fun y => ?_), h4.trans (funext fun y => ?_), h5⟩
    · exact qAt_of ex eg ep ew es _ _ _
    · exact kAt_of ex eg ep ew es _ _ _
    · exact vAt_of ex eg ew es _ _
    · exact cAt_of ex eg _ _
    · exact sAt_of ex eg _

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.SameText
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial,
  Cert.Algebraic.algebraic (hKernelIdeal := Cert.KernelIdeal.Gen.facts) (hReferenceIdeal := Cert.ReferenceIdeal.Gen.facts)⟩

end Cert.Proof

end
